-- ==== Defs.lean ====
def Pre_Kernel [hPre_span_range : Cert.Pre_span_range.Facts] (m : (ℓ : Loc Cert.Kernel.nD Cert.Kernel.τ Cert.Kernel.sig) → Buf (Elt Bits) ℓ) : Prop :=
  ∀ c : Dev Cert.Kernel.nD,
    (Cert.Pre_span_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_span_range : Cert.Pre_span_range.Facts] (m : (ℓ : Loc Cert.KernelIdeal.nD Cert.KernelIdeal.τ Cert.KernelIdeal.sig) → Buf (Elt Ideal) ℓ) : Prop :=
  ∀ c : Dev Cert.KernelIdeal.nD,
    (Cert.Pre_span_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_spans [hPre_finite_spans : Cert.Pre_finite_spans.Facts] (m : (ℓ : Loc Cert.KernelIdeal.nD Cert.KernelIdeal.τ Cert.KernelIdeal.sig) → Buf (Elt Ideal) ℓ) : Prop :=
  ∀ c : Dev Cert.KernelIdeal.nD,
    (Cert.Pre_finite_spans.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_spans [hPre_finite_spans : Cert.Pre_finite_spans.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_spans.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_span_range : Cert.Pre_span_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_span_range : Cert.Pre_span_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_spans [hKernelIdeal : Cert.KernelIdeal.Facts] [hPre_finite_spans : Cert.Pre_finite_spans.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_spans m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_spans [hReferenceIdeal : Cert.ReferenceIdeal.Facts] [hPre_finite_spans : Cert.Pre_finite_spans.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_spans m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_spans [hKernelIdeal : Cert.KernelIdeal.Facts] [hReferenceIdeal : Cert.ReferenceIdeal.Facts] [hPre_finite_spans : Cert.Pre_finite_spans.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_spans m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_span_range : Cert.Pre_span_range.Facts) (hPre_finite_spans : Cert.Pre_finite_spans.Facts),
    quiescent_Kernel (hKernel := hKernel) (hPre_span_range := hPre_span_range)
    ∧ quiescent_KernelIdeal (hKernelIdeal := hKernelIdeal) (hPre_span_range := hPre_span_range)
    ∧ quiescent_KernelIdeal_pre_finite_spans (hKernelIdeal := hKernelIdeal) (hPre_finite_spans := hPre_finite_spans)
    ∧ quiescent_ReferenceIdeal (hReferenceIdeal := hReferenceIdeal)
    ∧ quiescent_ReferenceIdeal_pre_finite_spans (hReferenceIdeal := hReferenceIdeal) (hPre_finite_spans := hPre_finite_spans)
    ∧ preserves_Kernel_KernelIdeal
    ∧ algebraic_KernelIdeal_ReferenceIdeal_pre_finite_spans (hKernelIdeal := hKernelIdeal) (hReferenceIdeal := hReferenceIdeal) (hPre_finite_spans := hPre_finite_spans)
-- ==== Pre_finite_spans.lean ====
abbrev S4x8192x1024 : Shape := ⟨3, ![4, 8192, 1024]⟩
abbrev S4x2 : Shape := ⟨2, ![4, 2]⟩
abbrev S4x1 : Shape := ⟨2, ![4, 1]⟩
abbrev S4 : Shape := ⟨1, ![4]⟩
abbrev S_ : Shape := ⟨0, ![]⟩

class Facts : Prop where
  slices_S4x2_S4x1_0_0 : S4x2.Slices ![0, 0] S4x1
  shapeCasts_S4x1_S4 : S4x1.ShapeCasts S4
  slices_S4x2_S4x1_0_1 : S4x2.Slices ![0, 1] S4x1
  bcast_S_S4 : S_.BroadcastsInDim S4 (![] : Fin 0 → Fin S4.rank)
  reducesTo_S4_S_d0 : S4.ReducesTo [0] S_
  h_S_ : 0 < S_.numel
  bcast_S_S4x8192x1024 : S_.BroadcastsInDim S4x8192x1024 (![] : Fin 0 → Fin S4x8192x1024.rank)
  reducesTo_S4x8192x1024_S_d0_1_2 : S4x8192x1024.ReducesTo [0, 1, 2] S_

variable [Facts]

def fn_part1 {F : FTy → Type} [FloatOps F] (main_v16 : IVec S_ 1) (main_v17 : FVec F S4x8192x1024 .f32) : IVec S_ 1 :=
  let main_cst : FVec F S_ .f32 := constant S_ .f32 0x7F800000#32
  let main_v18 : FVec F S4x8192x1024 .f32 := broadcastInDim S4x8192x1024 ![] bcast_S_S4x8192x1024 main_cst
  let main_v19 : IVec S4x8192x1024 1 := cmpf .olt main_v17 main_v18
  let main_c_5 : IVec S_ 1 := constantI S_ 1 1#1
  let main_v20 : IVec S_ 1 := (fun x v => Host.reduce IntOp.andi x v reducesTo_S4x8192x1024_S_d0_1_2 h_S_) main_v19 main_c_5
  let main_v21 : IVec S_ 1 := andi main_v16 main_v20
  main_v21

def fn {F : FTy → Type} [FloatOps F] (main_arg0 : FVec F S4x8192x1024 .f32) (main_arg1 : IVec S4x2 32) : IVec S_ 1 :=
  let main_v0 : IVec S4x1 32 := (extractStridedSlice S4x1 ![0, 0] · slices_S4x2_S4x1_0_0) main_arg1
  let main_v1 : IVec S4 32 := shapeCast S4 main_v0 shapeCasts_S4x1_S4
  let main_v2 : IVec S4x1 32 := (extractStridedSlice S4x1 ![0, 1] · slices_S4x2_S4x1_0_1) main_arg1
  let main_v3 : IVec S4 32 := shapeCast S4 main_v2 shapeCasts_S4x1_S4
  let main_c : IVec S_ 32 := constantI S_ 32 0#32
  let main_v4 : IVec S4 32 := broadcastInDim S4 ![] bcast_S_S4 main_c
  let main_v5 : IVec S4 1 := cmpi .sge main_v1 main_v4
  let main_c_0 : IVec S_ 32 := constantI S_ 32 8192#32
  let main_v6 : IVec S4 32 := broadcastInDim S4 ![] bcast_S_S4 main_c_0
  let main_v7 : IVec S4 1 := cmpi .slt main_v1 main_v6
  let main_v8 : IVec S4 1 := andi main_v5 main_v7
  let main_c_1 : IVec S_ 1 := constantI S_ 1 1#1
  let main_v9 : IVec S_ 1 := (fun x v => Host.reduce IntOp.andi x v reducesTo_S4_S_d0 h_S_) main_v8 main_c_1
  let main_c_2 : IVec S_ 32 := constantI S_ 32 1#32
  let main_v10 : IVec S4 32 := broadcastInDim S4 ![] bcast_S_S4 main_c_2
  let main_v11 : IVec S4 1 := cmpi .sge main_v3 main_v10
  let main_c_3 : IVec S_ 32 := constantI S_ 32 8192#32
  let main_v12 : IVec S4 32 := broadcastInDim S4 ![] bcast_S_S4 main_c_3
  let main_v13 : IVec S4 1 := cmpi .sle main_v3 main_v12
  let main_v14 : IVec S4 1 := andi main_v11 main_v13
  let main_c_4 : IVec S_ 1 := constantI S_ 1 1#1
  let main_v15 : IVec S_ 1 := (fun x v => Host.reduce IntOp.andi x v reducesTo_S4_S_d0 h_S_) main_v14 main_c_4
  let main_v16 : IVec S_ 1 := andi main_v9 main_v15
  let main_v17 : FVec F S4x8192x1024 .f32 := Host.absf main_arg0
  fn_part1 (F := F) main_v16 main_v17
-- ==== Pre_span_range.lean ====
abbrev S4x8192x1024 : Shape := ⟨3, ![4, 8192, 1024]⟩
abbrev S4x2 : Shape := ⟨2, ![4, 2]⟩
abbrev S4x1 : Shape := ⟨2, ![4, 1]⟩
abbrev S4 : Shape := ⟨1, ![4]⟩
abbrev S_ : Shape := ⟨0, ![]⟩

class Facts : Prop where
  slices_S4x2_S4x1_0_0 : S4x2.Slices ![0, 0] S4x1
  shapeCasts_S4x1_S4 : S4x1.ShapeCasts S4
  slices_S4x2_S4x1_0_1 : S4x2.Slices ![0, 1] S4x1
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x8192x1024 .f32) (main_arg1 : IVec S4x2 32) : IVec S_ 1 :=
  let main_v0 : IVec S4x1 32 := (extractStridedSlice S4x1 ![0, 0] · slices_S4x2_S4x1_0_0) main_arg1
  let main_v1 : IVec S4 32 := shapeCast S4 main_v0 shapeCasts_S4x1_S4
  let main_v2 : IVec S4x1 32 := (extractStridedSlice S4x1 ![0, 1] · slices_S4x2_S4x1_0_1) main_arg1
  let main_v3 : IVec S4 32 := shapeCast S4 main_v2 shapeCasts_S4x1_S4
  let main_c : IVec S_ 32 := constantI S_ 32 0#32
  let main_v4 : IVec S4 32 := broadcastInDim S4 ![] bcast_S_S4 main_c
  let main_v5 : IVec S4 1 := cmpi .sge main_v1 main_v4
  let main_c_0 : IVec S_ 32 := constantI S_ 32 8192#32
  let main_v6 : IVec S4 32 := broadcastInDim S4 ![] bcast_S_S4 main_c_0
  let main_v7 : IVec S4 1 := cmpi .slt main_v1 main_v6
  let main_v8 : IVec S4 1 := andi main_v5 main_v7
  let main_c_1 : IVec S_ 1 := constantI S_ 1 1#1
  let main_v9 : IVec S_ 1 := (fun x v => Host.reduce IntOp.andi x v reducesTo_S4_S_d0 h_S_) main_v8 main_c_1
  let main_c_2 : IVec S_ 32 := constantI S_ 32 1#32
  let main_v10 : IVec S4 32 := broadcastInDim S4 ![] bcast_S_S4 main_c_2
  let main_v11 : IVec S4 1 := cmpi .sge main_v3 main_v10
  let main_c_3 : IVec S_ 32 := constantI S_ 32 8192#32
  let main_v12 : IVec S4 32 := broadcastInDim S4 ![] bcast_S_S4 main_c_3
  let main_v13 : IVec S4 1 := cmpi .sle main_v3 main_v12
  let main_v14 : IVec S4 1 := andi main_v11 main_v13
  let main_c_4 : IVec S_ 1 := constantI S_ 1 1#1
  let main_v15 : IVec S_ 1 := (fun x v => Host.reduce IntOp.andi x v reducesTo_S4_S_d0 h_S_) main_v14 main_c_4
  let main_v16 : IVec S_ 1 := andi main_v9 main_v15
  main_v16
-- ==== Kernel.lean ====
abbrev S4x8192x1024 : Shape := ⟨3, ![4, 8192, 1024]⟩
abbrev S4x2 : Shape := ⟨2, ![4, 2]⟩
abbrev S8 : Shape := ⟨1, ![8]⟩
abbrev S262144x128 : Shape := ⟨2, ![262144, 128]⟩
abbrev S4x2x1 : Shape := ⟨3, ![4, 2, 1]⟩
abbrev S_ : Shape := ⟨0, ![]⟩
abbrev S1x1x8 : Shape := ⟨3, ![1, 1, 8]⟩
abbrev S4x2x8 : Shape := ⟨3, ![4, 2, 8]⟩
abbrev S4x16 : Shape := ⟨2, ![4, 16]⟩
abbrev S4x1024 : Shape := ⟨2, ![4, 1024]⟩
abbrev S16x128 : Shape := ⟨2, ![16, 128]⟩
abbrev S256 : Shape := ⟨1, ![256]⟩
abbrev S16 : Shape := ⟨1, ![16]⟩
abbrev S1x16 : Shape := ⟨2, ![1, 16]⟩
abbrev S1x1024 : Shape := ⟨2, ![1, 1024]⟩
abbrev S1024 : Shape := ⟨1, ![1024]⟩

abbrev nBuf : Table → Nat
  | .hbm => 16
  | .local .scVector .vmem => 5
  | _ => 0

abbrev bufTy : (tb : Table) → Fin (nBuf tb) → BufTy
  | .hbm, ⟨0, _⟩ => ⟨S4x8192x1024, .f32⟩
  | .hbm, ⟨1, _⟩ => ⟨S4x2, .i32⟩
  | .hbm, ⟨2, _⟩ => ⟨S4x2, .i32⟩
  | .hbm, ⟨3, _⟩ => ⟨S8, .i32⟩
  | .hbm, ⟨4, _⟩ => ⟨S262144x128, .f32⟩
  | .hbm, ⟨5, _⟩ => ⟨S4x2, .i32⟩
  | .hbm, ⟨6, _⟩ => ⟨S4x2x1, .i32⟩
  | .hbm, ⟨7, _⟩ => ⟨S_, .i32⟩
  | .hbm, ⟨8, _⟩ => ⟨S4x2x1, .i32⟩
  | .hbm, ⟨9, _⟩ => ⟨S4x2x1, .i32⟩
  | .hbm, ⟨10, _⟩ => ⟨S1x1x8, .i32⟩
  | .hbm, ⟨11, _⟩ => ⟨S4x2x8, .i32⟩
  | .hbm, ⟨12, _⟩ => ⟨S4x2x8, .i32⟩
  | .hbm, ⟨13, _⟩ => ⟨S4x2x8, .i32⟩
  | .hbm, ⟨14, _⟩ => ⟨S4x16, .i32⟩
  | .hbm, ⟨15, _⟩ => ⟨S4x1024, .f32⟩
  | .local .scVector .vmem, ⟨0, _⟩ => ⟨S4x16, .i32⟩
  | .local .scVector .vmem, ⟨1, _⟩ => ⟨S16x128, .f32⟩
  | .local .scVector .vmem, ⟨2, _⟩ => ⟨S256, .f32⟩
  | .local .scVector .vmem, ⟨3, _⟩ => ⟨S16, .f32⟩
  | .local .scVector .vmem, ⟨4, _⟩ => ⟨S16, .f32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v0_scv : Ref sig .scVector := ⟨.hbm, 4, rfl⟩
abbrev main_v9_scv : Ref sig .scVector := ⟨.hbm, 14, rfl⟩
abbrev main_v10_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_22 : BitVec 32 := 0#32
  ![v16.toNat, 0]
def k0_mult1 (i : grid0.Coords) : BitVec 32 :=
  let c512_i32 : BitVec 32 := 512#32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v26 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let v86 : BitVec 32 := Scalar.muli c512_i32 v53
  v86
@[reducible] def k0_t1_loop : Scf.Loop 32 :=
  let c0_i32_37 : BitVec 32 := 0#32
  let c16_i32_38 : BitVec 32 := 16#32
  let v88 : BitVec 32 := Scalar.addi c0_i32_37 c16_i32_38
  let c1_i32_39 : BitVec 32 := 1#32
  ⟨c0_i32_37, v88, c1_i32_39⟩
def k0_off2 (i : grid0.Coords) (k0_t1 : Fin k0_t1_loop.trips) : Fin 2 → Nat :=
  let c512_i32 : BitVec 32 := 512#32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v26 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let v86 : BitVec 32 := Scalar.muli c512_i32 v53
  let v87 : BitVec 32 := v86
  let c32_i32 : BitVec 32 := 32#32
  let c0_i32_37 : BitVec 32 := 0#32
  let c1_i32_39 : BitVec 32 := 1#32
  let arg11 : BitVec 32 := Scf.iv c0_i32_37 c1_i32_39 k0_t1
  let v93 : BitVec 32 := Scalar.muli c32_i32 arg11
  let v94 : BitVec 32 := Scalar.addi v87 v93
  let c0_i32_42 : BitVec 32 := 0#32
  let v96 : BitVec 1 := Scalar.cmpi .sgt v94 c0_i32_42
  let v97 : BitVec 32 := Scalar.extui v96
  let c0_i32_43 : BitVec 32 := 0#32
  let v98 : BitVec 1 := Scalar.cmpi .slt v94 c0_i32_43
  let v99 : BitVec 32 := Scalar.extui v98
  let v100 : BitVec 32 := Scalar.subi v97 v99
  let c128_i32 : BitVec 32 := 128#32
  let c0_i32_44 : BitVec 32 := 0#32
  let v101 : BitVec 1 := Scalar.cmpi .sgt c128_i32 c0_i32_44
  let v102 : BitVec 32 := Scalar.extui v101
  let c0_i32_45 : BitVec 32 := 0#32
  let v103 : BitVec 1 := Scalar.cmpi .slt c128_i32 c0_i32_45
  let v104 : BitVec 32 := Scalar.extui v103
  let v105 : BitVec 32 := Scalar.subi v102 v104
  let v106 : BitVec 1 := Scalar.cmpi .ne v100 v105
  let v107 : BitVec 32 := Scalar.remsi v94 c128_i32
  let c0_i32_46 : BitVec 32 := 0#32
  let v108 : BitVec 1 := Scalar.cmpi .ne v107 c0_i32_46
  let v109 : BitVec 1 := Scalar.andi v106 v108
  let v95 : BitVec 32 := Scalar.divsi v94 c128_i32
  let c1_i32_47 : BitVec 32 := 1#32
  let v110 : BitVec 32 := Scalar.subi v95 c1_i32_47
  let v111 : BitVec 32 := Scalar.select v109 v110 v95
  let v122 : Index := Scalar.indexCast v111
  let c128_i32_48 : BitVec 32 := 128#32
  let c0_i32_49 : BitVec 32 := 0#32
  let v112 : BitVec 1 := Scalar.cmpi .eq c128_i32_48 c0_i32_49
  let c1_i32_50 : BitVec 32 := 1#32
  let v113 : BitVec 32 := Scalar.select v112 c1_i32_50 c128_i32_48
  let v114 : BitVec 32 := Scalar.remsi v94 v113
  let c0_i32_52 : BitVec 32 := 0#32
  let v116 : BitVec 1 := Scalar.cmpi .slt v114 c0_i32_52
  let c0_i32_53 : BitVec 32 := 0#32
  let v117 : BitVec 1 := Scalar.cmpi .slt v113 c0_i32_53
  let v118 : BitVec 1 := Scalar.xori v116 v117
  let c0_i32_51 : BitVec 32 := 0#32
  let v115 : BitVec 1 := Scalar.cmpi .ne v114 c0_i32_51
  let v119 : BitVec 1 := Scalar.andi v118 v115
  let v120 : BitVec 32 := Scalar.addi v114 v113
  let v121 : BitVec 32 := Scalar.select v119 v120 v114
  let v123 : Index := Scalar.indexCast v121
  ![v122.toNat, v123.toNat]
def k0_off3 (i : grid0.Coords) (k0_t1 : Fin k0_t1_loop.trips) : Fin 2 → Nat :=
  let c8_i32_54 : BitVec 32 := 8#32
  let c512_i32 : BitVec 32 := 512#32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v26 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let v86 : BitVec 32 := Scalar.muli c512_i32 v53
  let v87 : BitVec 32 := v86
  let c32_i32 : BitVec 32 := 32#32
  let c0_i32_37 : BitVec 32 := 0#32
  let c1_i32_39 : BitVec 32 := 1#32
  let arg11 : BitVec 32 := Scf.iv c0_i32_37 c1_i32_39 k0_t1
  let v93 : BitVec 32 := Scalar.muli c32_i32 arg11
  let v94 : BitVec 32 := Scalar.addi v87 v93
  let c0_i32_42 : BitVec 32 := 0#32
  let v96 : BitVec 1 := Scalar.cmpi .sgt v94 c0_i32_42
  let v97 : BitVec 32 := Scalar.extui v96
  let c0_i32_43 : BitVec 32 := 0#32
  let v98 : BitVec 1 := Scalar.cmpi .slt v94 c0_i32_43
  let v99 : BitVec 32 := Scalar.extui v98
  let v100 : BitVec 32 := Scalar.subi v97 v99
  let c128_i32 : BitVec 32 := 128#32
  let c0_i32_44 : BitVec 32 := 0#32
  let v101 : BitVec 1 := Scalar.cmpi .sgt c128_i32 c0_i32_44
  let v102 : BitVec 32 := Scalar.extui v101
  let c0_i32_45 : BitVec 32 := 0#32
  let v103 : BitVec 1 := Scalar.cmpi .slt c128_i32 c0_i32_45
  let v104 : BitVec 32 := Scalar.extui v103
  let v105 : BitVec 32 := Scalar.subi v102 v104
  let v106 : BitVec 1 := Scalar.cmpi .ne v100 v105
  let v107 : BitVec 32 := Scalar.remsi v94 c128_i32
  let c0_i32_46 : BitVec 32 := 0#32
  let v108 : BitVec 1 := Scalar.cmpi .ne v107 c0_i32_46
  let v109 : BitVec 1 := Scalar.andi v106 v108
  let v95 : BitVec 32 := Scalar.divsi v94 c128_i32
  let c1_i32_47 : BitVec 32 := 1#32
  let v110 : BitVec 32 := Scalar.subi v95 c1_i32_47
  let v111 : BitVec 32 := Scalar.select v109 v110 v95
  let v126 : BitVec 32 := Scalar.addi c8_i32_54 v111
  let v137 : Index := Scalar.indexCast v126
  let c128_i32_55 : BitVec 32 := 128#32
  let c0_i32_56 : BitVec 32 := 0#32
  let v127 : BitVec 1 := Scalar.cmpi .eq c128_i32_55 c0_i32_56
  let c1_i32_57 : BitVec 32 := 1#32
  let v128 : BitVec 32 := Scalar.select v127 c1_i32_57 c128_i32_55
  let v129 : BitVec 32 := Scalar.remsi v94 v128
  let c0_i32_59 : BitVec 32 := 0#32
  let v131 : BitVec 1 := Scalar.cmpi .slt v129 c0_i32_59
  let c0_i32_60 : BitVec 32 := 0#32
  let v132 : BitVec 1 := Scalar.cmpi .slt v128 c0_i32_60
  let v133 : BitVec 1 := Scalar.xori v131 v132
  let c0_i32_58 : BitVec 32 := 0#32
  let v130 : BitVec 1 := Scalar.cmpi .ne v129 c0_i32_58
  let v134 : BitVec 1 := Scalar.andi v133 v130
  let v135 : BitVec 32 := Scalar.addi v129 v128
  let v136 : BitVec 32 := Scalar.select v134 v135 v129
  let v138 : Index := Scalar.indexCast v136
  ![v137.toNat, v138.toNat]
def k0_off4 (i : grid0.Coords) (k0_t1 : Fin k0_t1_loop.trips) : Fin 2 → Nat :=
  let c512_i32 : BitVec 32 := 512#32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v26 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let v86 : BitVec 32 := Scalar.muli c512_i32 v53
  let v87 : BitVec 32 := v86
  let c32_i32 : BitVec 32 := 32#32
  let c0_i32_37 : BitVec 32 := 0#32
  let c1_i32_39 : BitVec 32 := 1#32
  let arg11 : BitVec 32 := Scf.iv c0_i32_37 c1_i32_39 k0_t1
  let v93 : BitVec 32 := Scalar.muli c32_i32 arg11
  let v94 : BitVec 32 := Scalar.addi v87 v93
  let c0_i32_42 : BitVec 32 := 0#32
  let v96 : BitVec 1 := Scalar.cmpi .sgt v94 c0_i32_42
  let v97 : BitVec 32 := Scalar.extui v96
  let c0_i32_43 : BitVec 32 := 0#32
  let v98 : BitVec 1 := Scalar.cmpi .slt v94 c0_i32_43
  let v99 : BitVec 32 := Scalar.extui v98
  let v100 : BitVec 32 := Scalar.subi v97 v99
  let c128_i32 : BitVec 32 := 128#32
  let c0_i32_44 : BitVec 32 := 0#32
  let v101 : BitVec 1 := Scalar.cmpi .sgt c128_i32 c0_i32_44
  let v102 : BitVec 32 := Scalar.extui v101
  let c0_i32_45 : BitVec 32 := 0#32
  let v103 : BitVec 1 := Scalar.cmpi .slt c128_i32 c0_i32_45
  let v104 : BitVec 32 := Scalar.extui v103
  let v105 : BitVec 32 := Scalar.subi v102 v104
  let v106 : BitVec 1 := Scalar.cmpi .ne v100 v105
  let v107 : BitVec 32 := Scalar.remsi v94 c128_i32
  let c0_i32_46 : BitVec 32 := 0#32
  let v108 : BitVec 1 := Scalar.cmpi .ne v107 c0_i32_46
  let v109 : BitVec 1 := Scalar.andi v106 v108
  let v95 : BitVec 32 := Scalar.divsi v94 c128_i32
  let c1_i32_47 : BitVec 32 := 1#32
  let v110 : BitVec 32 := Scalar.subi v95 c1_i32_47
  let v111 : BitVec 32 := Scalar.select v109 v110 v95
  let v152 : Index := Scalar.indexCast v111
  let c128_i32_61 : BitVec 32 := 128#32
  let c0_i32_62 : BitVec 32 := 0#32
  let v141 : BitVec 1 := Scalar.cmpi .eq c128_i32_61 c0_i32_62
  let c1_i32_63 : BitVec 32 := 1#32
  let v142 : BitVec 32 := Scalar.select v141 c1_i32_63 c128_i32_61
  let v143 : BitVec 32 := Scalar.remsi v94 v142
  let c0_i32_65 : BitVec 32 := 0#32
  let v145 : BitVec 1 := Scalar.cmpi .slt v143 c0_i32_65
  let c0_i32_66 : BitVec 32 := 0#32
  let v146 : BitVec 1 := Scalar.cmpi .slt v142 c0_i32_66
  let v147 : BitVec 1 := Scalar.xori v145 v146
  let c0_i32_64 : BitVec 32 := 0#32
  let v144 : BitVec 1 := Scalar.cmpi .ne v143 c0_i32_64
  let v148 : BitVec 1 := Scalar.andi v147 v144
  let v149 : BitVec 32 := Scalar.addi v143 v142
  let v150 : BitVec 32 := Scalar.select v148 v149 v143
  let c16_i32_67 : BitVec 32 := 16#32
  let v151 : BitVec 32 := Scalar.addi v150 c16_i32_67
  let v153 : Index := Scalar.indexCast v151
  ![v152.toNat, v153.toNat]
def k0_off5 (i : grid0.Coords) (k0_t1 : Fin k0_t1_loop.trips) : Fin 2 → Nat :=
  let c8_i32_68 : BitVec 32 := 8#32
  let c512_i32 : BitVec 32 := 512#32
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v26 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let v86 : BitVec 32 := Scalar.muli c512_i32 v53
  let v87 : BitVec 32 := v86
  let c32_i32 : BitVec 32 := 32#32
  let c0_i32_37 : BitVec 32 := 0#32
  let c1_i32_39 : BitVec 32 := 1#32
  let arg11 : BitVec 32 := Scf.iv c0_i32_37 c1_i32_39 k0_t1
  let v93 : BitVec 32 := Scalar.muli c32_i32 arg11
  let v94 : BitVec 32 := Scalar.addi v87 v93
  let c0_i32_42 : BitVec 32 := 0#32
  let v96 : BitVec 1 := Scalar.cmpi .sgt v94 c0_i32_42
  let v97 : BitVec 32 := Scalar.extui v96
  let c0_i32_43 : BitVec 32 := 0#32
  let v98 : BitVec 1 := Scalar.cmpi .slt v94 c0_i32_43
  let v99 : BitVec 32 := Scalar.extui v98
  let v100 : BitVec 32 := Scalar.subi v97 v99
  let c128_i32 : BitVec 32 := 128#32
  let c0_i32_44 : BitVec 32 := 0#32
  let v101 : BitVec 1 := Scalar.cmpi .sgt c128_i32 c0_i32_44
  let v102 : BitVec 32 := Scalar.extui v101
  let c0_i32_45 : BitVec 32 := 0#32
  let v103 : BitVec 1 := Scalar.cmpi .slt c128_i32 c0_i32_45
  let v104 : BitVec 32 := Scalar.extui v103
  let v105 : BitVec 32 := Scalar.subi v102 v104
  let v106 : BitVec 1 := Scalar.cmpi .ne v100 v105
  let v107 : BitVec 32 := Scalar.remsi v94 c128_i32
  let c0_i32_46 : BitVec 32 := 0#32
  let v108 : BitVec 1 := Scalar.cmpi .ne v107 c0_i32_46
  let v109 : BitVec 1 := Scalar.andi v106 v108
  let v95 : BitVec 32 := Scalar.divsi v94 c128_i32
  let c1_i32_47 : BitVec 32 := 1#32
  let v110 : BitVec 32 := Scalar.subi v95 c1_i32_47
  let v111 : BitVec 32 := Scalar.select v109 v110 v95
  let v156 : BitVec 32 := Scalar.addi c8_i32_68 v111
  let v168 : Index := Scalar.indexCast v156
  let c128_i32_69 : BitVec 32 := 128#32
  let c0_i32_70 : BitVec 32 := 0#32
  let v157 : BitVec 1 := Scalar.cmpi .eq c128_i32_69 c0_i32_70
  let c1_i32_71 : BitVec 32 := 1#32
  let v158 : BitVec 32 := Scalar.select v157 c1_i32_71 c128_i32_69
  let v159 : BitVec 32 := Scalar.remsi v94 v158
  let c0_i32_73 : BitVec 32 := 0#32
  let v161 : BitVec 1 := Scalar.cmpi .slt v159 c0_i32_73
  let c0_i32_74 : BitVec 32 := 0#32
  let v162 : BitVec 1 := Scalar.cmpi .slt v158 c0_i32_74
  let v163 : BitVec 1 := Scalar.xori v161 v162
  let c0_i32_72 : BitVec 32 := 0#32
  let v160 : BitVec 1 := Scalar.cmpi .ne v159 c0_i32_72
  let v164 : BitVec 1 := Scalar.andi v163 v160
  let v165 : BitVec 32 := Scalar.addi v159 v158
  let v166 : BitVec 32 := Scalar.select v164 v165 v159
  let c16_i32_75 : BitVec 32 := 16#32
  let v167 : BitVec 32 := Scalar.addi v166 c16_i32_75
  let v169 : Index := Scalar.indexCast v167
  ![v168.toNat, v169.toNat]

def k0_chk1 (v82 : IVec S16 32) : Prop :=
  (∀ a x, ((![v82] : Fin 1 → IVec S16 32) a x).toNat < S16.size a) ∧
  (∀ a x, ((![v82] : Fin 1 → IVec S16 32) a x).toNat < S16.size a)
theorem k0_idx1_inb : ∀ (v82 : IVec S16 32) (k0_hw1 : k0_chk1 v82), ∀ a x, ((![v82] : Fin 1 → IVec S16 32) a x).toNat < S16.size a := fun v82 k0_hw1 => k0_hw1.1
theorem k0_idx2_inb : ∀ (v82 : IVec S16 32) (k0_hw1 : k0_chk1 v82), ∀ a x, ((![v82] : Fin 1 → IVec S16 32) a x).toNat < S16.size a := fun v82 k0_hw1 => k0_hw1.2
def k0_off6 (k0_t1 : Fin k0_t1_loop.trips) : Fin 1 → Nat :=
  let c16_i32_77 : BitVec 32 := 16#32
  let c0_i32_37 : BitVec 32 := 0#32
  let c1_i32_39 : BitVec 32 := 1#32
  let arg11 : BitVec 32 := Scf.iv c0_i32_37 c1_i32_39 k0_t1
  let v185 : BitVec 32 := Scalar.muli c16_i32_77 arg11
  let v186 : Index := Scalar.indexCast v185
  ![v186.toNat]
def k0_mult2 (i : grid0.Coords) : BitVec 32 :=
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32 : BitVec 32 := 2#32
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let v27 : BitVec 32 := Scalar.divsi v26 c2_i32
  let c1_i32_15 : BitVec 32 := 1#32
  let v42 : BitVec 32 := Scalar.subi v27 c1_i32_15
  let v43 : BitVec 32 := Scalar.select v41 v42 v27
  let c512_i32_41 : BitVec 32 := 512#32
  let v89 : BitVec 32 := Scalar.muli v43 c512_i32_41
  let c256_i32 : BitVec 32 := 256#32
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v26 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let v90 : BitVec 32 := Scalar.muli c256_i32 v53
  let v91 : BitVec 32 := Scalar.addi v89 v90
  v91
def k0_off7 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_42_r1 : BitVec 32 := 0#32
  ![v16.toNat, 0]
def k0_off8 (i : grid0.Coords) : Fin 1 → Nat :=
  let arg1 : BitVec 32 := BitVec.ofNat 32 (i 1).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c2_i32 : BitVec 32 := 2#32
  let c0_i32_12 : BitVec 32 := 0#32
  let v33 : BitVec 1 := Scalar.cmpi .sgt c2_i32 c0_i32_12
  let v34 : BitVec 32 := Scalar.extui v33
  let c0_i32_13 : BitVec 32 := 0#32
  let v35 : BitVec 1 := Scalar.cmpi .slt c2_i32 c0_i32_13
  let v36 : BitVec 32 := Scalar.extui v35
  let v37 : BitVec 32 := Scalar.subi v34 v36
  let v38 : BitVec 1 := Scalar.cmpi .ne v32 v37
  let v39 : BitVec 32 := Scalar.remsi v26 c2_i32
  let c0_i32_14 : BitVec 32 := 0#32
  let v40 : BitVec 1 := Scalar.cmpi .ne v39 c0_i32_14
  let v41 : BitVec 1 := Scalar.andi v38 v40
  let v27 : BitVec 32 := Scalar.divsi v26 c2_i32
  let c1_i32_15 : BitVec 32 := 1#32
  let v42 : BitVec 32 := Scalar.subi v27 c1_i32_15
  let v43 : BitVec 32 := Scalar.select v41 v42 v27
  let c512_i32_41 : BitVec 32 := 512#32
  let v89 : BitVec 32 := Scalar.muli v43 c512_i32_41
  let c256_i32 : BitVec 32 := 256#32
  let c2_i32_16 : BitVec 32 := 2#32
  let c0_i32_17 : BitVec 32 := 0#32
  let v44 : BitVec 1 := Scalar.cmpi .eq c2_i32_16 c0_i32_17
  let c1_i32_18 : BitVec 32 := 1#32
  let v45 : BitVec 32 := Scalar.select v44 c1_i32_18 c2_i32_16
  let v46 : BitVec 32 := Scalar.remsi v26 v45
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let c0_i32_19 : BitVec 32 := 0#32
  let v47 : BitVec 1 := Scalar.cmpi .ne v46 c0_i32_19
  let v51 : BitVec 1 := Scalar.andi v50 v47
  let v52 : BitVec 32 := Scalar.addi v46 v45
  let v53 : BitVec 32 := Scalar.select v51 v52 v46
  let v90 : BitVec 32 := Scalar.muli c256_i32 v53
  let v91 : BitVec 32 := Scalar.addi v89 v90
  let v92 : BitVec 32 := v91
  ![v92.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x1024 : Shape := ⟨3, ![4, 8192, 1024]⟩
abbrev S4x2 : Shape := ⟨2, ![4, 2]⟩
abbrev S4 : Shape := ⟨1, ![4]⟩
abbrev S4x1 : Shape := ⟨2, ![4, 1]⟩
abbrev S_ : Shape := ⟨0, ![]⟩
abbrev S4x1024 : Shape := ⟨2, ![4, 1024]⟩
abbrev S4x512 : Shape := ⟨2, ![4, 512]⟩

abbrev nBuf : Space → Nat
  | .hbm => 53
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x2, .i32⟩
  | .hbm, ⟨2, _⟩ => ⟨S4, .i32⟩
  | .hbm, ⟨3, _⟩ => ⟨S4x1, .i32⟩
  | .hbm, ⟨4, _⟩ => ⟨S4, .i32⟩
  | .hbm, ⟨5, _⟩ => ⟨S4x1, .i32⟩
  | .hbm, ⟨6, _⟩ => ⟨S4, .i32⟩
  | .hbm, ⟨7, _⟩ => ⟨S_, .i32⟩
  | .hbm, ⟨8, _⟩ => ⟨S4, .i32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i1⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4, .i32⟩
  | .hbm, ⟨24, _⟩ => ⟨S4x1, .i32⟩
  | .hbm, ⟨25, _⟩ => ⟨S4x1, .i32⟩
  | .hbm, ⟨26, _⟩ => ⟨S4x2, .i32⟩
  | .hbm, ⟨27, _⟩ => ⟨S4x1024, .f32⟩
  | .hbm, ⟨28, _⟩ => ⟨S_, .i32⟩
  | .hbm, ⟨29, _⟩ => ⟨S4, .i32⟩
  | .hbm, ⟨30, _⟩ => ⟨S4, .i1⟩
  | .hbm, ⟨31, _⟩ => ⟨S_, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S_, .i32⟩
  | .hbm, ⟨36, _⟩ => ⟨S4, .i32⟩
  | .hbm, ⟨37, _⟩ => ⟨S4, .i1⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .i32⟩
  | .hbm, ⟨42, _⟩ => ⟨S4x1, .i32⟩
  | .hbm, ⟨43, _⟩ => ⟨S4x1, .i32⟩
  | .hbm, ⟨44, _⟩ => ⟨S4x2, .i32⟩
  | .hbm, ⟨45, _⟩ => ⟨S4x1024, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S4x512, .f32⟩
  | .hbm, ⟨50, _⟩ => ⟨S4x512, .f32⟩
  | .hbm, ⟨51, _⟩ => ⟨S4x512, .f32⟩
  | .hbm, ⟨52, _⟩ => ⟨S4x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_4 : Ref sig .tc := ⟨.hbm, 28, rfl⟩
abbrev main_v21 : Ref sig .tc := ⟨.hbm, 29, rfl⟩
abbrev main_v22 : Ref sig .tc := ⟨.hbm, 30, rfl⟩
abbrev main_c_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_c_7 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.Words.lean ====
/-
  The words the kernel's body computes, in closed form over its grid: where a tile's copies and loads start, which of the
  two halves of the span vector a tile fills, and the lane order in which a block of sixteen results is drawn from two
  blocks of sixteen differences. Tile `w` serves batch row `w / 4`, half `w % 4 / 2`, segment `w % 2`.
-/
module

public import proofs.«01_k».proof.Defs
public import proofs.«01_k».proof.Proof.Gen.KernelIdeal
public import proofs.«01_k».proof.Proof.Gen.KernelIdeal.Skeleton
public import Idealize.ShloMosaic.Lib.ValueIdxCore

@[expose] public section

set_option maxRecDepth 16384

noncomputable section

namespace Cert.Proof.Spans

open Cert.KernelIdeal Cert.KernelIdeal.Gen
open Idealize.ShloMosaic Idealize.SL.Sem

variable {F : FTy → Type} [FloatOps F]

/-! ## The parts of a tile's number -/

/-- The tile's batch row. -/
abbrev batchN (L : grid0.Coords) : ℕ := (L 1).val / 4
/-- The half of the span vector it fills: 0 the even lanes' differences, 1 the odd lanes'. -/
abbrev halfN (L : grid0.Coords) : ℕ := (L 1).val % 4 / 2
/-- The segment of that half. -/
abbrev segN (L : grid0.Coords) : ℕ := (L 1).val % 2

/-! ## Offsets -/

theorem off1_eq : ∀ i : grid0.Coords, k0_off1 i = ![(i 1).val / 4, 0] := by decide +kernel
theorem off2_eq : ∀ (i : grid0.Coords) (t : Fin k0_t1_loop.trips),
    k0_off2 i t = ![4 * ((i 1).val % 2) + t.val / 4, 32 * (t.val % 4)] := by decide +kernel
theorem off3_eq : ∀ (i : grid0.Coords) (t : Fin k0_t1_loop.trips),
    k0_off3 i t = ![8 + (4 * ((i 1).val % 2) + t.val / 4), 32 * (t.val % 4)] := by decide +kernel
theorem off4_eq : ∀ (i : grid0.Coords) (t : Fin k0_t1_loop.trips),
    k0_off4 i t = ![4 * ((i 1).val % 2) + t.val / 4, 32 * (t.val % 4) + 16] := by decide +kernel
theorem off5_eq : ∀ (i : grid0.Coords) (t : Fin k0_t1_loop.trips),
    k0_off5 i t = ![8 + (4 * ((i 1).val % 2) + t.val / 4), 32 * (t.val % 4) + 16] := by decide +kernel
theorem off7_eq : ∀ i : grid0.Coords, k0_off7 i = ![(i 1).val / 4, 0] := by decide +kernel
theorem off8_eq : ∀ i : grid0.Coords, k0_off8 i = ![512 * ((i 1).val % 4 / 2) + 256 * ((i 1).val % 2)] := by decide +kernel
theorem trips_eq : k0_t1_loop.trips = 16 := by decide +kernel

/-! ## The scalars handed from one part of the body to the next -/

/-- The tile's number within its batch row, and what the body computes of it. -/
def word26 (i : grid0.Coords) : BitVec 32 :=
  let arg1 : BitVec 32 := BitVec.ofNat 32 (i 1).val
  let v17 : BitVec 1 := Scalar.cmpi .eq 4#32 0#32
  let v18 : BitVec 32 := Scalar.select v17 1#32 4#32
  let v19 : BitVec 32 := Scalar.remsi arg1 v18
  let v20 : BitVec 1 := Scalar.cmpi .ne v19 0#32
  let v21 : BitVec 1 := Scalar.cmpi .slt v19 0#32
  let v22 : BitVec 1 := Scalar.cmpi .slt v18 0#32
  let v23 : BitVec 1 := Scalar.xori v21 v22
  let v24 : BitVec 1 := Scalar.andi v23 v20
  let v25 : BitVec 32 := Scalar.addi v19 v18
  Scalar.select v24 v25 v19
def word27 (i : grid0.Coords) : BitVec 32 := Scalar.divsi (word26 i) 2#32
def word38 (i : grid0.Coords) : BitVec 1 :=
  let v26 := word26 i
  let v28 : BitVec 1 := Scalar.cmpi .sgt v26 0#32
  let v29 : BitVec 32 := Scalar.extui v28
  let v30 : BitVec 1 := Scalar.cmpi .slt v26 0#32
  let v31 : BitVec 32 := Scalar.extui v30
  let v32 : BitVec 32 := Scalar.subi v29 v31
  let v33 : BitVec 1 := Scalar.cmpi .sgt 2#32 0#32
  let v34 : BitVec 32 := Scalar.extui v33
  let v35 : BitVec 1 := Scalar.cmpi .slt 2#32 0#32
  let v36 : BitVec 32 := Scalar.extui v35
  let v37 : BitVec 32 := Scalar.subi v34 v36
  Scalar.cmpi .ne v32 v37
def word39 (i : grid0.Coords) : BitVec 32 := Scalar.remsi (word26 i) 2#32
/-- The half, as the body names it. -/
def word43 (i : grid0.Coords) : BitVec 32 :=
  let v40 : BitVec 1 := Scalar.cmpi .ne (word39 i) 0#32
  let v41 : BitVec 1 := Scalar.andi (word38 i) v40
  let v42 : BitVec 32 := Scalar.subi (word27 i) 1#32
  Scalar.select v41 v42 (word27 i)
def word68 : BitVec 32 := Scalar.select (Scalar.cmpi .eq 16#32 0#32) 1#32 16#32
/-- The source lane of each of sixteen results. -/
def lanes (i : grid0.Coords) : IVec S16 32 :=
  k0_pay1 word68 (k0_pay9 (word27 i) (word38 i) (word39 i)) (k0_pay10 (word27 i) (word38 i) (word39 i))
    (k0_pay11 (word27 i) (word38 i) (word39 i))

theorem word43_eq : ∀ i : grid0.Coords, word43 i = BitVec.ofNat 32 ((i 1).val % 4 / 2) := by decide +kernel

theorem lanes_eq : ∀ (i : grid0.Coords) (x : Fin 16), (lanes i (ValueIdx.ix1 x)).toNat = (2 * x.val + (i 1).val % 4 / 2) % 16 := by
  decide +kernel

theorem low_eq : ∀ x : Fin 16, k0_pay8 (ValueIdx.ix1 x) = BitVec.ofBool (decide (x.val < 8)) := by decide +kernel

/-- The body's first part reads nothing: it is the scalars it hands on. -/
theorem part3_eq (i : grid0.Coords) (arg2 : Memref sig .scVector .hbm S262144x128 .f32) (harg2 : arg2.IsWhole) (arg3 : Memref sig .scVector .hbm S4x16 .i32) (harg3 : arg3.IsWhole) (arg4 : Memref sig .scVector .hbm S4x1024 .f32) (harg4 : arg4.IsWhole) (arg5 : Memref sig .scVector .vmem S4x16 .i32) (harg5 : arg5.IsWhole) (arg6 : Memref sig .scVector .vmem S16x128 .f32) (harg6 : arg6.IsWhole) (arg7 : Memref sig .scVector .vmem S256 .f32) (harg7 : arg7.IsWhole) (arg8 : Memref sig .scVector .vmem S16 .f32) (harg8 : arg8.IsWhole) (arg9 : Memref sig .scVector .vmem S16 .f32) (harg9 : arg9.IsWhole) (arg10 v93_r0 v93_r1 : DmaSems sig S_) :
    k0_part3 (F := F) i arg2 harg2 arg3 harg3 arg4 harg4 arg5 harg5 arg6 harg6 arg7 harg7 arg8 harg8 arg9 harg9 arg10 v93_r0 v93_r1
      = .ret ⟨word26 i, word27 i, word38 i, word39 i⟩ := rfl

end Cert.Proof.Spans

end
-- ==== Proof.Value.lean ====
/-
  What the kernel computes, as functions of the table and of the row numbers alone: the sixteen rows a tile gathers, one
  element of the span vector from them, a tile's 256 elements, the whole result; and that the block of sixteen results
  one trip of a tile's loop stores is those elements.
-/
module

public import proofs.«01_k».proof.Proof.Words
public import Idealize.ShloMosaic.Lib.ValueLayout

@[expose] public section

set_option maxRecDepth 16384

noncomputable section

namespace Cert.Proof.Spans

open Cert.KernelIdeal Cert.KernelIdeal.Gen
open Idealize.ShloMosaic Idealize.SL.Sem
open Idealize.ShloMosaic.ValueIdx (ix1 ix2 eq_ix1 eq_ix2 shapeCast_1a_a_apply)

variable {F : FTy → Type} [FloatOps F]

/-- The table's row a word names. -/
def rowOf (w : BitVec 32) : Fin 262144 := ⟨w.toNat % 262144, Nat.mod_lt _ (by decide)⟩

/-- The sixteen rows of the table that row `b` of the list names: eight of the start, then eight of the end. -/
def gathered (tbl : S262144x128.Idx → Elt F .f32) (ids : S4x16.Idx → BitVec 32) (b : Fin 4) : S16x128.Idx → Elt F .f32 :=
  fun x => tbl (ix2 (rowOf (ids (ix2 b (x 0)))) (x 1))

/-- Lane `s` of the 1024 of the start (`e = 0`) or the end (`e = 1`), among the rows gathered. -/
def lane (rows : S16x128.Idx → Elt F .f32) (e s : ℕ) : F .f32 :=
  rows (ix2 ⟨(8 * e + s / 128) % 16, Nat.mod_lt _ (by decide)⟩ ⟨s % 128, Nat.mod_lt _ (by decide)⟩)

/-- The sign of half `p`: one, or minus one. -/
def sgn (p : ℕ) : F .f32 := Scalar.sitofp .f32 (Scalar.subi 1#32 (Scalar.muli 2#32 (BitVec.ofNat 32 p)))

/-- One element of the span vector: the difference of the end's lane `s` and the start's, by the half's sign. -/
def elem (rows : S16x128.Idx → Elt F .f32) (p s : ℕ) : F .f32 :=
  FloatOps.mulf (sgn p) (FloatOps.subf (lane rows 1 s) (lane rows 0 s))

/-- A tile's 256 elements. -/
def segVal (L : grid0.Coords) (rows : S16x128.Idx → Elt F .f32) : S256.Idx → Elt F .f32 :=
  fun x => elem rows (halfN L) (512 * segN L + 2 * (x 0).val + halfN L)

/-- The whole result. -/
def spanVal (tbl : S262144x128.Idx → Elt F .f32) (ids : S4x16.Idx → BitVec 32) : S4x1024.Idx → Elt F .f32 :=
  fun x => elem (gathered tbl ids (x 0)) ((x 1).val / 512) (2 * ((x 1).val % 512) + (x 1).val / 512)

theorem coord1_lt (L : grid0.Coords) : (L 1).val < 16 := (L 1).isLt

theorem trip_lt (t : Fin k0_t1_loop.trips) : t.val < 16 := lt_of_lt_of_eq t.isLt trips_eq

/-- The lanes a block draws from are lanes of the block. -/
theorem lanes_chk (L : grid0.Coords) : k0_chk1 (lanes L) := by
  have h : ∀ (a : Fin 1) x, ((![lanes L] : Fin 1 → IVec S16 32) a x).toNat < S16.size a := by
    intro a x
    obtain rfl : a = 0 := Subsingleton.elim _ _
    rw [eq_ix1 x]
    exact lt_of_eq_of_lt (lanes_eq L (x 0)) (Nat.mod_lt _ (by decide))
  exact ⟨h, h⟩

theorem loadIdx_lanes (L : grid0.Coords) (f : Vec F S16 .f32) (h : ∀ (a : Fin S16.rank) x, ((![lanes L] : Fin 1 → IVec S16 32) a x).toNat < S16.size a)
    (x : Fin 16) :
    loadIdx f (![lanes L] : Fin 1 → IVec S16 32) h (ix1 x) = f (ix1 ⟨(2 * x.val + halfN L) % 16, Nat.mod_lt _ (by decide)⟩) := by
  show f (idxAt _ h (ix1 x)) = _
  congr 1
  rw [eq_ix1 (idxAt _ h (ix1 x))]
  congr 1
  exact Fin.ext (lanes_eq L x)

/-- One trip's block: sixteen differences from the first sixteen source lanes, sixteen from the next, drawn by the lane
    order and multiplied by the sign, are sixteen elements of the span vector. -/
theorem block_val (L : grid0.Coords) (t : Fin k0_t1_loop.trips) (rows : S16x128.Idx → Elt F .f32) (r2 r3 r4 r5 : Vec F S1x16 .f32)
    (h2 : ∀ x : Fin 16, r2 (ix2 0 x) = lane rows 0 (512 * segN L + 32 * t.val + x.val))
    (h3 : ∀ x : Fin 16, r3 (ix2 0 x) = lane rows 1 (512 * segN L + 32 * t.val + x.val))
    (h4 : ∀ x : Fin 16, r4 (ix2 0 x) = lane rows 0 (512 * segN L + 32 * t.val + 16 + x.val))
    (h5 : ∀ x : Fin 16, r5 (ix2 0 x) = lane rows 1 (512 * segN L + 32 * t.val + 16 + x.val))
    (h h' : ∀ (a : Fin S16.rank) x, ((![lanes L] : Fin 1 → IVec S16 32) a x).toNat < S16.size a) (x : Fin 16) :
    k0_pay4 (word43 L) k0_pay8 (loadIdx (k0_pay2 (k0_pay6 (k0_pay5 r2) r3)) (![lanes L] : Fin 1 → IVec S16 32) h)
        (loadIdx (k0_pay3 (k0_pay7 r4 r5)) (![lanes L] : Fin 1 → IVec S16 32) h') (ix1 x)
      = elem rows (halfN L) (512 * segN L + 2 * (16 * t.val + x.val) + halfN L) := by
  have hid : ∀ (v : FVec F S16 .f32) (y : S16.Idx), shapeCast S16 v shapeCasts_S16_S16 y = v y := by
    intro v y
    exact congrFun (shapeCast_self v _) y
  have e2 : ∀ y : Fin 16, k0_pay2 (k0_pay6 (k0_pay5 r2) r3) (ix1 y)
      = FloatOps.subf (lane rows 1 (512 * segN L + 32 * t.val + y.val)) (lane rows 0 (512 * segN L + 32 * t.val + y.val)) := by
    intro y
    rw [← h2, ← h3]
    unfold k0_pay2 k0_pay6 k0_pay5
    rw [hid]
    unfold subf
    try dsimp only
    rw [shapeCast_1a_a_apply, shapeCast_1a_a_apply]
  have e3 : ∀ y : Fin 16, k0_pay3 (k0_pay7 r4 r5) (ix1 y)
      = FloatOps.subf (lane rows 1 (512 * segN L + 32 * t.val + 16 + y.val)) (lane rows 0 (512 * segN L + 32 * t.val + 16 + y.val)) := by
    intro y
    rw [← h4, ← h5]
    unfold k0_pay3 k0_pay7
    rw [hid]
    unfold subf
    try dsimp only
    rw [shapeCast_1a_a_apply, shapeCast_1a_a_apply]
  have hw := coord1_lt L
  have hx := x.isLt
  unfold k0_pay4
  rw [hid]
  simp only [mulf, broadcast, select]
  rw [loadIdx_lanes, loadIdx_lanes, e2, e3, low_eq, word43_eq]
  unfold elem
  congr 1
  by_cases hlt : x.val < 8
  · have e : (2 * x.val + halfN L) % 16 = 2 * x.val + halfN L := by unfold halfN; omega
    simp only [hlt, decide_true, e]
    rw [show 512 * segN L + 32 * t.val + (2 * x.val + halfN L) = 512 * segN L + 2 * (16 * t.val + x.val) + halfN L by omega]
    rfl
  · have e : 512 * segN L + 32 * t.val + 16 + (2 * x.val + halfN L) % 16 = 512 * segN L + 2 * (16 * t.val + x.val) + halfN L := by
      unfold halfN; omega
    simp only [hlt, decide_false, e]
    rfl

end Cert.Proof.Spans

end
-- ==== Proof.Geometry.lean ====
/-
  The elements the tile's memrefs address: its row of the list of row numbers, the table as the gather sees it, the rows
  gathered, the blocks of them a trip loads, and the piece of the result the tile writes.
-/
module

public import proofs.«01_k».proof.Proof.Value
public import Idealize.ShloMosaic.Lib.SparseCore.Stream
public import Idealize.ShloMosaic.Lib.Pipeline.Value
public import Idealize.ShloMosaic.Lib.Pipeline.ValueKit.Geometry

@[expose] public section

set_option maxRecDepth 16384

noncomputable section

namespace Cert.Proof.Spans

open Cert.KernelIdeal Cert.KernelIdeal.Gen
open Idealize.ShloMosaic Idealize.SL.Sem
open Idealize.ShloMosaic.ValueIdx (ix1 ix2 eq_ix1 eq_ix2 shapeCast_1a_a_apply)
open Idealize.ShloMosaic.ValueKit (rect_emb_unit_val)

variable {F : FTy → Type}

/-- The tile's operands and scratch buffers whole. -/
abbrev tblM : Memref sig .scVector .hbm S262144x128 .f32 := Memref.whole main_v0_scv
abbrev idsM : Memref sig .scVector .hbm S4x16 .i32 := Memref.whole main_v9_scv
abbrev outM : Memref sig .scVector .hbm S4x1024 .f32 := Memref.whole main_v10_scv
abbrev listM : Memref sig .scVector .vmem S4x16 .i32 := Memref.whole cc0_scratch0
abbrev rowsM : Memref sig .scVector .vmem S16x128 .f32 := Memref.whole cc0_scratch1
abbrev resM : Memref sig .scVector .vmem S256 .f32 := Memref.whole cc0_scratch2
abbrev lowM : Memref sig .scVector .vmem S16 .f32 := Memref.whole cc0_scratch3
abbrev highM : Memref sig .scVector .vmem S16 .f32 := Memref.whole cc0_scratch4

/-- The table through the whole rectangle, as the gather names it. -/
abbrev tblK : Memref sig .scVector .hbm S262144x128 .f32 :=
  tblM.slice (Rect.unit (s := S262144x128) ![0, 0] S262144x128.size inb_S262144x128_S262144x128_0_0) (fun _ => rfl)
/-- The tile's row of the list. -/
abbrev listK (L : grid0.Coords) : Memref sig .scVector .vmem S16 .i32 :=
  (listM.slice (Rect.unit (s := S4x16) (k0_off1 L) S1x16.size (k0_off1_inb L)) (fun _ => rfl)).squeeze S16 squeezes_S1x16_S16
/-- The tile's batch row of the result; its piece of it. -/
abbrev outRowK (L : grid0.Coords) : Memref sig .scVector .hbm S1024 .f32 :=
  (outM.slice (Rect.unit (s := S4x1024) (k0_off7 L) S1x1024.size (k0_off7_inb L)) (fun _ => rfl)).squeeze S1024 squeezes_S1x1024_S1024
abbrev outK (L : grid0.Coords) : Memref sig .scVector .hbm S256 .f32 :=
  (outRowK L).slice (Rect.unit (s := S1024) (k0_off8 L) S256.size (k0_off8_inb L)) (fun _ => rfl)

theorem batch_lt (L : grid0.Coords) : batchN L < 4 := by have := coord1_lt L; unfold batchN; omega
/-- The tile's batch row. -/
abbrev batch (L : grid0.Coords) : Fin 4 := ⟨batchN L, batch_lt L⟩

/-- What the tile's row of the list reads: that row. -/
theorem read_listK (L : grid0.Coords) (f : S4x16.Idx → BitVec 32) (x : Fin 16) :
    (listK L).view.read (Elt F) f (ix1 x) = f (ix2 (batch L) x) := by
  refine (congrFun (Memref.read_squeeze_slice (Val := Elt F) listM (Rect.unit (s := S4x16) (k0_off1 L) S1x16.size (k0_off1_inb L)) (fun _ => rfl)
    squeezes_S1x16_S16 shapeCasts_S1x16_S16 f) (ix1 x)).trans ?_
  refine (shapeCast_1a_a_apply _ _ x).trans ?_
  rw [View.readAt_apply]
  show f _ = f _
  congr 1
  funext a
  apply Fin.ext
  refine (rect_emb_unit_val (s := S4x16) (k0_off1 L) S1x16.size (k0_off1_inb L) (ix2 0 x) a).trans ?_
  refine (congrArg (· + _) (congrFun (off1_eq L) _)).trans ?_
  match a with
  | 0 => rfl
  | 1 => exact Nat.zero_add _

/-- The table as the gather names it reads the table. -/
theorem read_tblK (f : S262144x128.Idx → Elt F .f32) : tblK.view.read (Elt F) f = f := by
  funext x
  show f _ = f _
  congr 1
  funext a
  apply Fin.ext
  refine (rect_emb_unit_val (s := S262144x128) ![0, 0] S262144x128.size inb_S262144x128_S262144x128_0_0 x a).trans ?_
  match a with
  | 0 => exact Nat.zero_add _
  | 1 => exact Nat.zero_add _

theorem symm_S16 : ∀ n : Fin 16, S16.rowMajor.symm (n.cast (by decide)) = ix1 n := by decide +kernel

/-- What the gather delivers: the sixteen rows the tile's row of the list names. -/
theorem gather_val (L : grid0.Coords) (tbl : S262144x128.Idx → Elt F .f32) (ids : S4x16.Idx → BitVec 32) (hn : S16.numel = 16)
    (h : ∀ x, ((listK L).view.read (Elt F) ids x).toNat < S262144x128.size gathers_S262144x128_S16x128.axis) :
    SparseCore.gatherPayload (F := F) (e := .f32) gathers_S262144x128_S16x128 (tblK.view.read (Elt F) tbl)
        (SparseCore.rows (F := F) ((listK L).view.read (Elt F) ids) hn h)
      = gathered tbl ids (batch L) := by
  funext x
  rw [read_tblK]
  unfold SparseCore.gatherPayload gathered
  congr 1
  funext b
  apply Fin.ext
  match b with
  | 0 =>
    refine (congrArg Fin.val (Shape.Gathers.idx_axis gathers_S262144x128_S16x128 _ x)).trans ?_
    show ((listK L).view.read (Elt F) ids (S16.rowMajor.symm ((x 0).cast _))).toNat = (ids (ix2 (batch L) (x 0))).toNat % 262144
    have e := congrArg BitVec.toNat ((congrArg _ (symm_S16 (x 0))).trans (read_listK (F := F) L ids (x 0)))
    have hlt : (ids (ix2 (batch L) (x 0))).toNat < 262144 := lt_of_eq_of_lt (congrArg BitVec.toNat (read_listK (F := F) L ids (x 0)).symm) (h (ix1 (x 0)))
    rw [Nat.mod_eq_of_lt hlt]
    exact e
  | 1 => exact Shape.Gathers.idx_of_ne gathers_S262144x128_S16x128 _ x 1 (by decide)

section Blocks

variable (L : grid0.Coords) (t : Fin k0_t1_loop.trips) (rows : S16x128.Idx → Elt F .f32) (x : Fin 16)

theorem read_off2 : rowsM.view.readAt (Elt F) (Rect.unit (s := S16x128) (k0_off2 L t) S1x16.size (k0_off2_inb L t)).toLoadRect rows (ix2 0 x)
    = lane rows 0 (512 * segN L + 32 * t.val + x.val) := by
  have ht := trip_lt t; have hx := x.isLt
  show rows _ = rows _
  congr 1
  funext a
  apply Fin.ext
  refine (rect_emb_unit_val (s := S16x128) (k0_off2 L t) S1x16.size (k0_off2_inb L t) (ix2 0 x) a).trans ?_
  refine (congrArg (· + _) (congrFun (off2_eq L t) _)).trans ?_
  match a with
  | 0 => show 4 * ((L 1).val % 2) + t.val / 4 + 0 = (8 * 0 + (512 * segN L + 32 * t.val + x.val) / 128) % 16; unfold segN; omega
  | 1 => show 32 * (t.val % 4) + x.val = (512 * segN L + 32 * t.val + x.val) % 128; unfold segN; omega

theorem read_off3 : rowsM.view.readAt (Elt F) (Rect.unit (s := S16x128) (k0_off3 L t) S1x16.size (k0_off3_inb L t)).toLoadRect rows (ix2 0 x)
    = lane rows 1 (512 * segN L + 32 * t.val + x.val) := by
  have ht := trip_lt t; have hx := x.isLt
  show rows _ = rows _
  congr 1
  funext a
  apply Fin.ext
  refine (rect_emb_unit_val (s := S16x128) (k0_off3 L t) S1x16.size (k0_off3_inb L t) (ix2 0 x) a).trans ?_
  refine (congrArg (· + _) (congrFun (off3_eq L t) _)).trans ?_
  match a with
  | 0 => show 8 + (4 * ((L 1).val % 2) + t.val / 4) + 0 = (8 * 1 + (512 * segN L + 32 * t.val + x.val) / 128) % 16; unfold segN; omega
  | 1 => show 32 * (t.val % 4) + x.val = (512 * segN L + 32 * t.val + x.val) % 128; unfold segN; omega

theorem read_off4 : rowsM.view.readAt (Elt F) (Rect.unit (s := S16x128) (k0_off4 L t) S1x16.size (k0_off4_inb L t)).toLoadRect rows (ix2 0 x)
    = lane rows 0 (512 * segN L + 32 * t.val + 16 + x.val) := by
  have ht := trip_lt t; have hx := x.isLt
  show rows _ = rows _
  congr 1
  funext a
  apply Fin.ext
  refine (rect_emb_unit_val (s := S16x128) (k0_off4 L t) S1x16.size (k0_off4_inb L t) (ix2 0 x) a).trans ?_
  refine (congrArg (· + _) (congrFun (off4_eq L t) _)).trans ?_
  match a with
  | 0 => show 4 * ((L 1).val % 2) + t.val / 4 + 0 = (8 * 0 + (512 * segN L + 32 * t.val + 16 + x.val) / 128) % 16; unfold segN; omega
  | 1 => show 32 * (t.val % 4) + 16 + x.val = (512 * segN L + 32 * t.val + 16 + x.val) % 128; unfold segN; omega

theorem read_off5 : rowsM.view.readAt (Elt F) (Rect.unit (s := S16x128) (k0_off5 L t) S1x16.size (k0_off5_inb L t)).toLoadRect rows (ix2 0 x)
    = lane rows 1 (512 * segN L + 32 * t.val + 16 + x.val) := by
  have ht := trip_lt t; have hx := x.isLt
  show rows _ = rows _
  congr 1
  funext a
  apply Fin.ext
  refine (rect_emb_unit_val (s := S16x128) (k0_off5 L t) S1x16.size (k0_off5_inb L t) (ix2 0 x) a).trans ?_
  refine (congrArg (· + _) (congrFun (off5_eq L t) _)).trans ?_
  match a with
  | 0 => show 8 + (4 * ((L 1).val % 2) + t.val / 4) + 0 = (8 * 1 + (512 * segN L + 32 * t.val + 16 + x.val) / 128) % 16; unfold segN; omega
  | 1 => show 32 * (t.val % 4) + 16 + x.val = (512 * segN L + 32 * t.val + 16 + x.val) % 128; unfold segN; omega

end Blocks

theorem shapeCasts_row : S1x1024.ShapeCasts S1024 := by decide

/-- Where an element of the tile's batch row of the result lies. -/
theorem emb_outRowK (L : grid0.Coords) (c : Fin 1024) : (outRowK L).view.emb (ix1 c) = (ix2 (batch L) c : S4x1024.Idx) := by
  have e : (outRowK L).view.read (fun _ => S4x1024.Idx) (fun z => z) (ix1 c) = (ix2 (batch L) c : S4x1024.Idx) := by
    rw [Memref.read_squeeze_slice outM _ (fun _ => rfl) squeezes_S1x1024_S1024 shapeCasts_row]
    refine (shapeCast_1a_a_apply _ _ c).trans ?_
    rw [View.readAt_apply]
    funext a
    apply Fin.ext
    refine (rect_emb_unit_val (s := S4x1024) (k0_off7 L) S1x1024.size (k0_off7_inb L) (ix2 0 c) a).trans ?_
    refine (congrArg (· + _) (congrFun (off7_eq L) _)).trans ?_
    match a with
    | 0 => rfl
    | 1 => exact Nat.zero_add _
  exact e

/-- Column of element `y` of the tile's piece. -/
def outCol (L : grid0.Coords) (y : Fin 256) : Fin 1024 :=
  ⟨512 * halfN L + 256 * segN L + y.val, by have := y.isLt; unfold halfN segN; omega⟩

theorem emb_outK (L : grid0.Coords) (y : Fin 256) : (outK L).view.emb (ix1 y) = (ix2 (batch L) (outCol L y) : S4x1024.Idx) := by
  have e : (outK L).view.emb (ix1 y)
      = (outRowK L).view.emb ((Rect.unit (s := S1024) (k0_off8 L) S256.size (k0_off8_inb L)).emb (ix1 y)) := rfl
  rw [e, ← emb_outRowK]
  congr 1
  funext a
  obtain rfl : a = 0 := Subsingleton.elim _ _
  apply Fin.ext
  refine (rect_emb_unit_val (s := S1024) (k0_off8 L) S256.size (k0_off8_inb L) (ix1 y) 0).trans ?_
  refine (congrArg (· + _) (congrFun (off8_eq L) _)).trans ?_
  rfl

/-- The elements of the tile's piece of the result: those of its batch row in its block of 256 columns. -/
theorem mem_outK (L : grid0.Coords) (z : S4x1024.Idx) :
    z ∈ (outK L).view.set ↔ 4 * (z 0).val + (z 1).val / 256 = (L 1).val := by
  have hw := coord1_lt L
  constructor
  · intro hz
    obtain ⟨y', -, rfl⟩ := Finset.mem_map.mp hz
    obtain ⟨y, rfl⟩ : ∃ y : Fin 256, y' = ix1 y := ⟨y' 0, eq_ix1 y'⟩
    rw [emb_outK]
    have hy := y.isLt
    show 4 * batchN L + (512 * halfN L + 256 * segN L + y.val) / 256 = (L 1).val
    unfold batchN halfN segN; omega
  · intro hz
    have h1 : (z 1).val < 1024 := (z 1).isLt
    have e : z = (outK L).view.emb (ix1 ⟨(z 1).val % 256, Nat.mod_lt _ (by decide)⟩) := by
      rw [emb_outK]
      funext a
      apply Fin.ext
      match a with
      | 0 => show (z 0).val = batchN L; unfold batchN; omega
      | 1 => show (z 1).val = 512 * halfN L + 256 * segN L + (z 1).val % 256; unfold halfN segN; omega
    rw [e]
    exact View.emb_mem_set _ _

variable [FloatOps F]

/-- The tile's elements, in place, are the result's. -/
theorem segVal_eq (L : grid0.Coords) (tbl : S262144x128.Idx → Elt F .f32) (ids : S4x16.Idx → BitVec 32) (y : Fin 256) :
    segVal L (gathered tbl ids (batch L)) (ix1 y) = spanVal tbl ids ((outK L).view.emb (ix1 y)) := by
  have hy := y.isLt
  rw [emb_outK]
  show elem _ (halfN L) (512 * segN L + 2 * y.val + halfN L)
    = elem _ ((512 * halfN L + 256 * segN L + y.val) / 512)
        (2 * ((512 * halfN L + 256 * segN L + y.val) % 512) + (512 * halfN L + 256 * segN L + y.val) / 512)
  have h1 : (512 * halfN L + 256 * segN L + y.val) / 512 = halfN L := by unfold halfN segN; omega
  have h2 : 2 * ((512 * halfN L + 256 * segN L + y.val) % 512) = 512 * segN L + 2 * y.val := by unfold halfN segN; omega
  rw [h1, h2]

end Cert.Proof.Spans

end
-- ==== Proof.Launch.lean ====
/-
  The launch's set-up: the program as the launch theorem sees it, the ghost state, the arrays as each processor names
  them, what the call hands a tile and what the tile hands back, and a tile's own buffers and semaphores one by one.
-/
module

public import proofs.«01_k».proof.Proof.Geometry
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Frame
public import Idealize.ShloMosaic.Lib.Tactic

@[expose] public section

set_option maxRecDepth 16384

noncomputable section

namespace Cert.Proof.Spans

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The table, the list of row numbers and the result, as the TensorCore names them. -/
abbrev tLoc (d : Dev nD) : Loc nD τ sig := (SparseCore.T d).loc main_v0
abbrev iLoc (d : Dev nD) : Loc nD τ sig := (SparseCore.T d).loc main_v9
abbrev oLoc (d : Dev nD) : Loc nD τ sig := (SparseCore.T d).loc main_v10

/-- Tile `w`'s coordinates, of the sixteen. -/
def tileAt (w : Fin 16) : grid0.Coords :=
  fun | 0 => (0 : Fin 1) | 1 => (w : Fin 16) | ⟨_ + 2, h⟩ => absurd h (Nat.not_lt.2 (Nat.le_add_left _ _))

/-- The tile a pair of coordinates names. -/
def coordsV (c : Fin (grid0.bound 0)) (s : Fin (grid0.bound 1)) : grid0.Coords :=
  fun | 0 => c | 1 => s | ⟨_ + 2, h⟩ => absurd h (Nat.not_lt.2 (Nat.le_add_left _ _))

/-- The piece of the result a tile writes. -/
abbrev piece (L : grid0.Coords) : Finset S4x1024.Idx := (outK L).view.set

/-- The piece depends on the tile's second coordinate alone. -/
theorem piece_congr {L L' : grid0.Coords} (h : (L 1).val = (L' 1).val) : piece L = piece L' := by
  ext z; rw [mem_outK, mem_outK, h]

/-! ## Read shares: a share of an array, halved four times -/

/-- Part `i` of the `2 ^ n` a share is cut into by `n` halvings: the left half of each halving for an even digit. -/
def cut (q : PosShare TreeShare) : (n : ℕ) → (Fin n → Bool) → PosShare TreeShare
  | 0, _ => q
  | n + 1, b => cut (if b 0 then q.right else q.left) n fun i => b i.succ

theorem pointsTo_halves {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  Entails.antisymm (pointsTo_share (PosShare.mem_left_op_right q)).1 (pointsTo_share (PosShare.mem_left_op_right q)).2

/-- Elements held at a share are held at its parts at once. -/
theorem pointsTo_cut {ℓ : Loc nD τ sig} (I : Finset (Idx ℓ)) (f : Buf (Elt F) ℓ) :
    ∀ (n : ℕ) (q : PosShare TreeShare), (ℓ ↦[I]{q} f : sProp 𝕄) = bigSep Finset.univ fun b : Fin n → Bool => ℓ ↦[I]{cut q n b} f
  | 0, q => (bigSep_univ_of_subsingleton (fun i => i.elim0) (Φ := fun b : Fin 0 → Bool => (ℓ ↦[I]{cut q 0 b} f : sProp 𝕄))).symm
  | n + 1, q => by
    rw [pointsTo_halves I f q, pointsTo_cut I f n q.left, pointsTo_cut I f n q.right,
      bigSep_univ_equiv ((Equiv.boolProdEquivSum (Fin n → Bool)).symm.trans (Fin.consEquiv fun _ : Fin (n + 1) => Bool))
        (fun b : Fin (n + 1) → Bool => (ℓ ↦[I]{cut q (n + 1) b} f : sProp 𝕄)), bigSep_univ_sum]
    rfl

/-- The tiles by their four binary digits. -/
def digits : Fin 16 ≃ (Fin 4 → Bool) := (Fintype.equivFinOfCardEq (by decide)).symm

/-- The share of the table, and of the list, that tile `w` reads at. -/
abbrev shareOf (w : Fin 16) : PosShare TreeShare := cut fullShare 4 (digits w)

theorem pointsTo_shares {ℓ : Loc nD τ sig} (f : Buf (Elt F) ℓ) :
    (ℓ ↦{fullShare} f : sProp 𝕄) = bigSep Finset.univ fun w : Fin 16 => ℓ ↦{shareOf w} f :=
  (pointsTo_cut Finset.univ f 4 fullShare).trans (bigSep_univ_equiv digits _)

/-! ## What the call carries -/

variable [FloatOps F]
variable (tb : (d : Dev nD) → Buf (Elt F) (tLoc d)) (li : (d : Dev nD) → Buf (Elt F) (iLoc d)) (ou : (d : Dev nD) → Buf (Elt F) (oLoc d))

/-- The result of the call. -/
abbrev res (d : Dev nD) : Buf (Elt F) (oLoc d) := spanVal (tb d) (li d)

abbrev tPts (d : Dev nD) : sProp 𝕄 := tLoc d ↦{fullShare} tb d
abbrev iPts (d : Dev nD) : sProp 𝕄 := iLoc d ↦{fullShare} li d
abbrev oPts (d : Dev nD) (f : Buf (Elt F) (oLoc d)) : sProp 𝕄 := oLoc d ↦{fullShare} f
abbrev tShare (d : Dev nD) (w : Fin 16) : sProp 𝕄 := tLoc d ↦{shareOf w} tb d
abbrev iShare (d : Dev nD) (w : Fin 16) : sProp 𝕄 := iLoc d ↦{shareOf w} li d
abbrev oPiece (d : Dev nD) (w : Fin 16) (f : Buf (Elt F) (oLoc d)) : sProp 𝕄 := oLoc d ↦[piece (tileAt w)]{fullShare} f

/-- The call takes the table, the list and the result whole; each tile a share of the table and of the list and its piece
    of the result, and brings them back, the piece holding the span vector. -/
def P : (K (F := F)).Pay (nD := nD) (Val := Elt F) (Name := ℕ) (U := UU) where
  st := fun q d _ => match q with | 0 => iprop(tPts tb d ∗ iPts li d ∗ oPts d (ou d))
  dn := fun q d _ => match q with | 0 => iprop(tPts tb d ∗ iPts li d ∗ oPts d (res tb li d))
  go := fun q d _ i => match q with
    | 0 => iprop(tShare tb d (Fin.cast nSub_zero i) ∗ iShare li d (Fin.cast nSub_zero i) ∗ oPiece d (Fin.cast nSub_zero i) (ou d))
  td := fun q d _ i => match q with
    | 0 => iprop(tShare tb d (Fin.cast nSub_zero i) ∗ iShare li d (Fin.cast nSub_zero i) ∗ oPiece d (Fin.cast nSub_zero i) (res tb li d))
  x := fun _ _ => iprop(emp)

instance P_storable : (P (F := F) tb li ou).IsStorable where
  st q d _ := match q with
    | 0 => (inferInstance : BI.Storable (upEmb : UEmb _ 𝕄) iprop(tPts tb d ∗ iPts li d ∗ oPts d (ou d)))
  dn q d _ := match q with
    | 0 => (inferInstance : BI.Storable (upEmb : UEmb _ 𝕄) iprop(tPts tb d ∗ iPts li d ∗ oPts d (res tb li d)))
  go q d _ i := match q with
    | 0 => (inferInstance : BI.Storable (upEmb : UEmb _ 𝕄)
      iprop(tShare tb d (Fin.cast nSub_zero i) ∗ iShare li d (Fin.cast nSub_zero i) ∗ oPiece d (Fin.cast nSub_zero i) (ou d)))
  td q d _ i := match q with
    | 0 => (inferInstance : BI.Storable (upEmb : UEmb _ 𝕄)
      iprop(tShare tb d (Fin.cast nSub_zero i) ∗ iShare li d (Fin.cast nSub_zero i) ∗ oPiece d (Fin.cast nSub_zero i) (res tb li d)))

/-- Every word of the list names a row of the table. -/
def ListOK : Prop := ∀ (d : Dev nD) (j : S4x16.Idx), (li d j : BitVec 32).toNat < 262144

/-! ## A tile's own buffers and semaphores -/

section Own

variable (d : Dev nD) (L : grid0.Coords)

abbrev cV (L : grid0.Coords) : Fin τ.nSC := (L 0).castLE hcore0
abbrev jV (L : grid0.Coords) : Fin τ.nSub := (L 1).castLE hsub0
/-- The tile's thread. -/
abbrev th (d : Dev nD) (L : grid0.Coords) : Thread nD τ := V d (cV L) (jV L)

/-- The tile's cells: the list's copy, the gather, the copy out. -/
abbrev cellL (d : Dev nD) (L : grid0.Coords) : GSem nD τ sig := (th d L, .dma cc0_scoped0.sem)
abbrev cellG (d : Dev nD) (L : grid0.Coords) : GSem nD τ sig := (th d L, .dma cc0_scratch5.sem)
abbrev cellO (d : Dev nD) (L : grid0.Coords) : GSem nD τ sig := (th d L, .dma cc0_scoped1.sem)

theorem mem_cells (s : DmaSem sig) (h : (SemLoc.dma s : SemLoc sig).isScoped .scVector = true) :
    ((th d L, .dma s) : GSem nD τ sig) ∈ ownCells (th d L) := mem_ownCells.mpr ⟨rfl, h⟩

abbrev restCells : Finset (GSem nD τ sig) := (((ownCells (th d L)).erase (cellL d L)).erase (cellG d L)).erase (cellO d L)

theorem ownSems0_V :
    (ownSems0 (th d L) : sProp 𝕄)
      = iprop(semVal (cellL d L) 0 ∗ semVal (cellG d L) 0 ∗ semVal (cellO d L) 0 ∗ bigSep (restCells d L) fun g => semVal g 0) := by
  unfold SparseCore.Cfg.ownSems0
  rw [SparseCore.bigSep_erase' (mem_cells d L cc0_scoped0.sem (by decide)),
    SparseCore.bigSep_erase' (Finset.mem_erase.mpr ⟨by simp [cellL, cellG]; decide, mem_cells d L cc0_scratch5.sem (by decide)⟩),
    SparseCore.bigSep_erase' (Finset.mem_erase.mpr ⟨by simp [cellG, cellO]; decide,
      Finset.mem_erase.mpr ⟨by simp [cellL, cellO]; decide, mem_cells d L cc0_scoped1.sem (by decide)⟩⟩)]

abbrev own (b : Ref sig .scVector) : DevRef τ sig := (Proc.scVector (cV L) (jV L)).devRef b

theorem own_ne {b b' : Ref sig .scVector} (h : b ≠ b') : own L b ≠ own L b' := fun e => h (Proc.devRef_injective _ e)

abbrev restRefs : Finset (DevRef τ sig) :=
  (((((ownRefs (τ := τ) (.scVector (cV L) (jV L))).erase (own L cc0_scratch0)).erase (own L cc0_scratch1)).erase (own L cc0_scratch2)).erase
    (own L cc0_scratch3)).erase (own L cc0_scratch4)

/-- The five scratch buffers are among the tile's own: they are them, at some contents, and the rest. -/
theorem ownBufs_V :
    (ownBufs (th d L) : sProp 𝕄)
      = iprop((∃ f, (th d L).loc cc0_scratch0 ↦{fullShare} f) ∗ (∃ f, (th d L).loc cc0_scratch1 ↦{fullShare} f)
          ∗ (∃ f, (th d L).loc cc0_scratch2 ↦{fullShare} f) ∗ (∃ f, (th d L).loc cc0_scratch3 ↦{fullShare} f)
          ∗ (∃ f, (th d L).loc cc0_scratch4 ↦{fullShare} f)
          ∗ bigSep (restRefs L) fun b => iprop(∃ f, ((d, b) : Loc nD τ sig) ↦{fullShare} f)) := by
  have hm (b : Ref sig .scVector) (h : (own L b).owner = .proc (.scVector (cV L) (jV L))) : own L b ∈ ownRefs (τ := τ) (.scVector (cV L) (jV L)) :=
    SparseCore.Cfg.mem_ownRefs_of_owner (p := Proc.scVector (cV L) (jV L)) h
  unfold SparseCore.Cfg.ownBufs
  refine (SparseCore.bigSep_erase' (hm cc0_scratch0 rfl)).trans ?_
  rw [SparseCore.bigSep_erase' (Finset.mem_erase.mpr ⟨own_ne L (by decide), hm cc0_scratch1 rfl⟩),
    SparseCore.bigSep_erase' (Finset.mem_erase.mpr ⟨own_ne L (by decide), Finset.mem_erase.mpr ⟨own_ne L (by decide), hm cc0_scratch2 rfl⟩⟩),
    SparseCore.bigSep_erase' (Finset.mem_erase.mpr ⟨own_ne L (by decide), Finset.mem_erase.mpr ⟨own_ne L (by decide),
      Finset.mem_erase.mpr ⟨own_ne L (by decide), hm cc0_scratch3 rfl⟩⟩⟩),
    SparseCore.bigSep_erase' (Finset.mem_erase.mpr ⟨own_ne L (by decide), Finset.mem_erase.mpr ⟨own_ne L (by decide),
      Finset.mem_erase.mpr ⟨own_ne L (by decide), Finset.mem_erase.mpr ⟨own_ne L (by decide), hm cc0_scratch4 rfl⟩⟩⟩⟩)]

end Own

end Cert.Proof.Spans

end
-- ==== Proof.Trip.lean ====
/-
  One trip of a tile's loop: from the rows gathered and the first `16 * t` elements of the tile's buffer, the first
  `16 * (t + 1)`.
-/
module

public import proofs.«01_k».proof.Proof.Launch

@[expose] public section

set_option maxRecDepth 16384

noncomputable section

namespace Cert.Proof.Spans

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

local notation "𝕄" => MT nD τ sig (HIx 1) (Elt F) ℕ UU ℕ

variable [FloatOps F] (d : Dev nD) (L : grid0.Coords)

/-- Before trip `k`: the rows gathered; the first `16 * k` elements computed; the two scratch blocks at anything. -/
def inv (rows : S16x128.Idx → Elt F .f32) (k : ℕ) (_ : Unit) : sProp 𝕄 :=
  iprop((rowsM.view.loc (th d L) ↦{fullShare} rows)
    ∗ (∃ f : S256.Idx → Elt F .f32, ⌜∀ y : Fin 256, y.val < 16 * k → f (ix1 y) = segVal L rows (ix1 y)⌝ ∗ (resM.view.loc (th d L) ↦{fullShare} f))
    ∗ (∃ f : S16.Idx → Elt F .f32, (lowM.view.loc (th d L) ↦{fullShare} f))
    ∗ (∃ f : S16.Idx → Elt F .f32, (highM.view.loc (th d L) ↦{fullShare} f)))

omit [FloatOps F] in
/-- A block stored whole is what an indexed load then loads from. -/
theorem read_stored (M : Memref sig .scVector .vmem S16 .f32) (f : M.view.ty.Contents (Elt F)) (p : S16.Idx → Elt F .f32) :
    (M.access (.whole S16)).read (Elt F) (M.view.writes (Elt F) f [⟨Rect.unit (s := S16) ![0] S16.size inb_S16_S16_0, p⟩]) = p := by
  funext x
  have e : (Rect.whole S16).emb x = x := by
    funext a; apply Fin.ext; rw [Rect.emb_apply]; show 0 + 1 * (x a).val = _; omega
  show M.view.read (Elt F) _ ((Rect.whole S16).emb x) = p x
  rw [e]
  refine View.read_writes_cons_hit_of_coords (Val := Elt F) M.view f (Rect.unit (s := S16) ![0] S16.size inb_S16_S16_0) p [] x x fun a => ?_
  obtain rfl : a = 0 := Subsingleton.elim _ _
  show (x 0).val = 0 + 1 * (x 0).val
  omega

omit [FloatOps F] in
/-- The buffer after trip `t`'s store: the block's elements in place, the rest as before. -/
theorem stored_trip (f : S256.Idx → Elt F .f32) (g : S256.Idx → Elt F .f32) (t : Fin k0_t1_loop.trips) (p : S16.Idx → Elt F .f32)
    (hf : ∀ y : Fin 256, y.val < 16 * t.val → f (ix1 y) = g (ix1 y))
    (hp : ∀ (x : Fin 16) (y : Fin 256), y.val = 16 * t.val + x.val → p (ix1 x) = g (ix1 y)) :
    ∀ y : Fin 256, y.val < 16 * (t.val + 1) →
      resM.view.writes (Elt F) f [⟨Rect.unit (s := S256) (k0_off6 t) S16.size (k0_off6_inb t), p⟩] (ix1 y) = g (ix1 y) := by
  intro y hy
  by_cases h : y.val < 16 * t.val
  · refine (View.read_writes_cons_miss_of_axis (Val := Elt F) resM.view f _ [] (ix1 y) 0 (16 * t.val) 16
      (congrFun (k0_off6_eq t) 0) rfl rfl (Or.inl h)).trans (hf y h)
  · refine (View.read_writes_cons_hit_of_coords (Val := Elt F) resM.view f _ _ [] (ix1 ⟨y.val - 16 * t.val, by omega⟩) (ix1 y) fun a => ?_).trans
      (hp ⟨y.val - 16 * t.val, by omega⟩ y (by show y.val = 16 * t.val + (y.val - 16 * t.val); omega))
    obtain rfl : a = 0 := Subsingleton.elim _ _
    show y.val = k0_off6 t 0 + 1 * (y.val - 16 * t.val)
    rw [k0_off6_eq]
    show y.val = 16 * t.val + 1 * (y.val - 16 * t.val)
    omega

set_option maxHeartbeats 4000000 in
/-- The trip. -/
theorem trip (rows : S16x128.Idx → Elt F .f32) (w53 : BitVec 32) (hw : k0_chk1 (lanes L)) (t : Fin k0_t1_loop.trips) (acc : Unit) :
    inv (F := F) d L rows t.val acc ⊢ wp frame (wpE (defs₀ (F := F)) 𝒱₀ (th d L) none) Set.univ
      (k0_t1_body (F := F) L tblM (Memref.isWhole_whole _) idsM (Memref.isWhole_whole _) outM (Memref.isWhole_whole _) listM (Memref.isWhole_whole _)
        rowsM (Memref.isWhole_whole _) resM (Memref.isWhole_whole _) lowM (Memref.isWhole_whole _) highM (Memref.isWhole_whole _)
        cc0_scratch5 cc0_scoped0 cc0_scoped1 (word43 L) k0_pay8 (lanes L) hw w53 t acc)
      fun acc' => inv (F := F) d L rows (t.val + 1) acc' := by
  unfold k0_t1_body
  simp only [k0_part1_eq_skeleton, k0_part2_eq_skeleton]; unfold k0_part1_skel k0_part2_skel
  simp only [Prog.lift, Prog.bind_op, Prog.bind_ret, Prog.pure_eq_ret, Prog.bind_assoc]
  unfold inv
  iintro ⟨Hrows, ⟨%f, %hf, Hres⟩, ⟨%fl, Hlow⟩, ⟨%fh, Hhigh⟩⟩
  sl_exec
  iapply (SparseCore.wp_vectorLoadIdx 𝒱₀ (th d L) none Set.univ (base := lowM) (S := Finset.univ) (q := fullShare) (Finset.subset_univ _)) $$ Hlow
  iintro Hlow
  rw [read_stored]
  sl_exec
  iapply (SparseCore.wp_vectorLoadIdx 𝒱₀ (th d L) none Set.univ (base := highM) (S := Finset.univ) (q := fullShare) (Finset.subset_univ _)) $$ Hhigh
  iintro Hhigh
  rw [read_stored]
  sl_exec
  sl_step
  isplitl [Hrows]; · iexact Hrows
  isplitl [Hres]
  · iexists _
    isplitr; swap
    · iexact Hres
    ipureintro
    refine stored_trip f _ t _ hf fun x y hy => ?_
    refine (block_val L t rows _ _ _ _ (read_off2 L t rows) (read_off3 L t rows) (read_off4 L t rows) (read_off5 L t rows) _ _ x).trans ?_
    unfold segVal
    rw [← hy]
  isplitl [Hlow]; · iexists _; iexact Hlow
  iexists _; iexact Hhigh

end Cert.Proof.Spans

end
-- ==== Proof.Tile.lean ====
/-
  A tile's task: the list's copy, the gather of the sixteen rows the tile's row of it names, the loop, the copy of its
  256 elements out to its piece of the result, each transfer with its wait.
-/
module

public import proofs.«01_k».proof.Proof.Trip

@[expose] public section

set_option maxRecDepth 16384

noncomputable section

namespace Cert.Proof.Spans

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

local notation "𝕄" => MT nD τ sig (HIx 1) (Elt F) ℕ UU ℕ

variable [FloatOps F]
variable (tb : (d : Dev nD) → Buf (Elt F) (tLoc d)) (li : (d : Dev nD) → Buf (Elt F) (iLoc d)) (ou : (d : Dev nD) → Buf (Elt F) (oLoc d))
variable (d : Dev nD) (L : grid0.Coords)

/-- The words the gather reads name rows of the table. -/
theorem inb_list (hli : ListOK li) (fl : Buf (Elt F) ((V d (cV L) (jV L)).loc cc0_scratch0)) (pay : S4x16.Idx → Elt F .i32)
    (hpay : pay = li d) :
    ∀ x, ((listK L).view.read (Elt F) (View.write (Elt F) listM.view fl pay Finset.univ) x).toNat
      < S262144x128.size gathers_S262144x128_S16x128.axis := by
  subst hpay
  intro x
  obtain ⟨x, rfl⟩ : ∃ y : Fin 16, x = ix1 y := ⟨x 0, eq_ix1 x⟩
  rw [View.write_whole_univ]
  exact lt_of_eq_of_lt (congrArg BitVec.toNat (read_listK (F := F) L (li d) x)) (hli d _)

/-- The result with the tile's 256 elements copied to its piece is, there, the span vector. -/
theorem copied_out (tbl : S262144x128.Idx → Elt F .f32) (ids : S4x16.Idx → BitVec 32) (f : S4x1024.Idx → Elt F .f32)
    (pay : S256.Idx → Elt F .f32) (hpay : ∀ y, pay (ix1 y) = segVal L (gathered tbl ids (batch L)) (ix1 y)) :
    ∀ z ∈ (outK L).view.set, (outK L).view.writes (Elt F) f [⟨Rect.whole S256, pay⟩] z = spanVal tbl ids z := by
  intro z hz
  obtain ⟨y', -, rfl⟩ := Finset.mem_map.mp hz
  obtain ⟨y, rfl⟩ : ∃ y : Fin 256, y' = ix1 y := ⟨y' 0, eq_ix1 y'⟩
  refine (View.read_writes_cons_hit_of_coords (Val := Elt F) (outK L).view f (Rect.whole S256) pay [] (ix1 y) (ix1 y) fun a => ?_).trans
    ((hpay y).trans (segVal_eq L tbl ids y))
  obtain rfl : a = 0 := Subsingleton.elim _ _
  show y.val = 0 + 1 * y.val
  omega

/-- The table and the list at a share, and a piece of the result. -/
abbrev tAt (q : PosShare TreeShare) : sProp 𝕄 := tLoc d ↦{q} tb d
abbrev iAt (q : PosShare TreeShare) : sProp 𝕄 := iLoc d ↦{q} li d
abbrev oAt (f : Buf (Elt F) (oLoc d)) : sProp 𝕄 := oLoc d ↦[piece L]{fullShare} f

set_option maxHeartbeats 8000000 in
theorem tile_body (hF : (K (F := F)).Facts) (hli : ListOK li) (q : PosShare TreeShare) (O : CellTallies nD τ sig (HIx 1)) (W : Waits sig (HIx 1))
    (hO : ∀ g, O g none = 0) :
    iprop(levAts (K (F := F)).L (K (F := F)).lev ∗ emp
        ∗ (tAt tb d q ∗ iAt li d q ∗ oAt d L (ou d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body (F := F) L tblM (Memref.isWhole_whole _) idsM (Memref.isWhole_whole _) outM (Memref.isWhole_whole _)
            listM (Memref.isWhole_whole _) rowsM (Memref.isWhole_whole _) resM (Memref.isWhole_whole _) lowM (Memref.isWhole_whole _)
            highM (Memref.isWhole_whole _) cc0_scratch5 cc0_scoped0 cc0_scoped1)
          fun _ => iprop((tAt tb d q ∗ iAt li d q ∗ oAt d L (res tb li d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  simp only [part3_eq, k0_part4_eq_skeleton]; unfold k0_part4_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fl, Hl⟩, ⟨%fr, Hr⟩, ⟨%fs, Hs⟩, ⟨%fa, Ha⟩, ⟨%fb, Hb⟩, Hbufs⟩, ⟨HsemL, HsemG, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht := (Entails.of_eq (show (tLoc d ↦{q} tb d : sProp 𝕄) = tblM.view.loc (V d (cV L) (jV L)) ↦{q} tb d from rfl)) $$ Ht
  ihave Hi := (Entails.of_eq (show (iLoc d ↦{q} li d : sProp 𝕄) = idsM.view.loc (V d (cV L) (jV L)) ↦{q} li d from rfl)) $$ Hi
  ihave Ho := (Entails.of_eq (show (oLoc d ↦[piece L]{fullShare} ou d : sProp 𝕄) = (outK L).view.loc (V d (cV L) (jV L)) ↦[(outK L).view.set]{fullShare} ou d from rfl)) $$ Ho
  ihave Hl := (Entails.of_eq (show ((V d (cV L) (jV L)).loc cc0_scratch0 ↦{fullShare} fl : sProp 𝕄) = listM.view.loc (V d (cV L) (jV L)) ↦{fullShare} fl from rfl)) $$ Hl
  ihave Hr := (Entails.of_eq (show ((V d (cV L) (jV L)).loc cc0_scratch1 ↦{fullShare} fr : sProp 𝕄) = rowsM.view.loc (V d (cV L) (jV L)) ↦{fullShare} fr from rfl)) $$ Hr
  ihave Hs := (Entails.of_eq (show ((V d (cV L) (jV L)).loc cc0_scratch2 ↦{fullShare} fs : sProp 𝕄) = resM.view.loc (V d (cV L) (jV L)) ↦{fullShare} fs from rfl)) $$ Hs
  ihave Ha := (Entails.of_eq (show ((V d (cV L) (jV L)).loc cc0_scratch3 ↦{fullShare} fa : sProp 𝕄) = lowM.view.loc (V d (cV L) (jV L)) ↦{fullShare} fa from rfl)) $$ Ha
  ihave Hb := (Entails.of_eq (show ((V d (cV L) (jV L)).loc cc0_scratch4 ↦{fullShare} fb : sProp 𝕄) = highM.view.loc (V d (cV L) (jV L)) ↦{fullShare} fb from rfl)) $$ Hb
  sl_exec
  -- the gather, over the tile's row of the list
  have hpay : tile_body.sl.dma0 li d = li d := rfl
  ihave Hts := (pointsTo_split_subset (ℓ := tLoc d) (q := q) (f := tb d) (S := Finset.univ) (Finset.subset_univ tblK.view.set)).1 $$ Ht
  icases Hts with ⟨Hts, Htr⟩
  ihave Hls := (pointsTo_split_subset (ℓ := listM.view.loc (V d (cV L) (jV L))) (q := fullShare) (f := View.write (Elt F) listM.view fl (tile_body.sl.dma0 li d) Finset.univ)
    (S := Finset.univ) (Finset.subset_univ (listK L).view.set)).1 $$ Hl
  icases Hls with ⟨Hls, Hlr⟩
  have hrs : rowsM.view.set = Finset.univ := View.set_whole _
  ihave Hr := (Entails.of_eq (show (rowsM.view.loc (V d (cV L) (jV L)) ↦{fullShare} fr : sProp 𝕄)
      = rowsM.view.loc (V d (cV L) (jV L)) ↦[rowsM.view.set]{fullShare} fr by rw [hrs])) $$ Hr
  have hN : ∀ h : S262144x128.Gathers 0 S16x128, ∑ j, (rowsM.slice (S16x128.rowRect h.axis' j) (S16x128.stride_rowRect h.axis' j)).view.dmaCredit
      = rowsM.view.dmaCredit := by decide
  have hin := inb_list li d L hli fl (tile_body.sl.dma0 li d) hpay
  iapply (SparseCore.wp_indirectGatherLocal countersEmb 𝒱₀ (V d (cV L) (jV L)) none (hg := gathers_S262144x128_S16x128) (default : HIx 1)
      rowsM.view.dmaCredit (hN _) (by decide) hin) $$ [Hts Hr Hls HsemG]
  · isplitl [Hts]; · iexact Hts
    isplitl [Hr]; · iexact Hr
    isplitl [Hls]; · iexact Hls
    iexact HsemG
  iintro Hfl
  sl_exec
  iapply (Transfers.wp_waitLocalO countersEmb 𝒱₀ (V d (cV L) (jV L)) none (default : HIx 1) (rfl : rowsM.view.dmaCredit = _)) $$ [Hfl HO]
  · isplitl [Hfl]; · iexact Hfl
    isplitl [HO]; · iexact HO
    iapply (Transfers.MayWaits.elim (SemLoc.dma cc0_scratch5.sem)) $$ Hmw
  iintro ⟨⟨Hr, Hts, Hls⟩, HsemG, HO⟩
  ihave Ht := (pointsTo_split_subset (ℓ := tLoc d) (q := q) (f := tb d) (S := Finset.univ) (Finset.subset_univ tblK.view.set)).2 $$ [Hts Htr]
  · isplitl [Hts] <;> iassumption
  ihave Hl := (pointsTo_split_subset (ℓ := listM.view.loc (V d (cV L) (jV L))) (q := fullShare) (f := View.write (Elt F) listM.view fl (tile_body.sl.dma0 li d) Finset.univ)
    (S := Finset.univ) (Finset.subset_univ (listK L).view.set)).2 $$ [Hls Hlr]
  · isplitl [Hls] <;> iassumption
  have hval : View.write (Elt F) rowsM.view fr (SparseCore.gatherPayload (F := F) (e := .f32) gathers_S262144x128_S16x128 (tblK.view.read (Elt F) (tb d))
          (SparseCore.rows (F := F) ((listK L).view.read (Elt F) (View.write (Elt F) listM.view fl (tile_body.sl.dma0 li d) Finset.univ)) rfl hin))
          Finset.univ = gathered (tb d) (li d) (batch L) :=
    (View.write_whole_univ _ _ _).trans ((gather_val (F := F) L (tb d) (View.write (Elt F) listM.view fl (tile_body.sl.dma0 li d) Finset.univ) rfl hin).trans
      (congrArg (fun z => gathered (tb d) z (batch L)) ((View.write_whole_univ _ _ _).trans hpay)))
  ihave Hr := (Entails.of_eq (show (rowsM.view.loc (V d (cV L) (jV L)) ↦[rowsM.view.set]{fullShare}
        View.write (Elt F) rowsM.view fr (SparseCore.gatherPayload (F := F) (e := .f32) gathers_S262144x128_S16x128 (tblK.view.read (Elt F) (tb d))
          (SparseCore.rows (F := F) ((listK L).view.read (Elt F) (View.write (Elt F) listM.view fl (tile_body.sl.dma0 li d) Finset.univ)) rfl hin))
          Finset.univ : sProp 𝕄)
      = rowsM.view.loc (V d (cV L) (jV L)) ↦{fullShare} gathered (tb d) (li d) (batch L) by
        rw [hrs, hval])) $$ Hr
  have hchk : k0_chk1 (k0_pay1 (Scalar.select (Scalar.cmpi CmpIPredicate.eq 16#32 0#32) 1#32 16#32) (k0_pay9 (word27 L) (word38 L) (word39 L))
      (k0_pay10 (word27 L) (word38 L) (word39 L)) (k0_pay11 (word27 L) (word38 L) (word39 L))) := lanes_chk L
  sl_exec
  sl_for (inv (F := F) d L (gathered (tb d) (li d) (batch L))) $$ [Hr Hs Ha Hb]
  · intro t acc
    exact trip d L (gathered (tb d) (li d) (batch L)) _ hchk t acc
  · unfold inv
    isplitl [Hr]; · iexact Hr
    isplitl [Hs]
    · iexists fs
      isplitr
      · ipureintro; intro y hy; exact absurd hy (by omega)
      · iexact Hs
    isplitl [Ha]; · iexists fa; iexact Ha
    iexists fb; iexact Hb
  iintro %acc Hinv
  unfold inv
  icases Hinv with ⟨Hr, ⟨%f, %hf, Hs⟩, ⟨%fa', Ha⟩, ⟨%fb', Hb⟩⟩
  have hall : ∀ y, f (ix1 y) = segVal L (gathered (tb d) (li d) (batch L)) (ix1 y) :=
    fun y => hf y (lt_of_lt_of_eq y.isLt (congrArg (16 * ·) trips_eq.symm))
  sl_exec
  sl_step
  isplitl [Ht Hi Ho]
  · isplitl [Ht]; · iexact Ht
    isplitl [Hi]; · iexact Hi
    iapply (Entails.of_eq (pointsTo_congr (ℓ := oLoc d) (q := fullShare) (I := piece L) (copied_out L (tb d) (li d) (ou d) (tile_body.sl.dma0_1 f) hall)))
    iexact Ho
  isplitl [Hl Hr Hs Ha Hb Hbufs]
  · isplitl [Hl]; · iexists _; iexact Hl
    isplitl [Hr]; · iexists _; iexact Hr
    isplitl [Hs]; · iexists _; iexact Hs
    isplitl [Ha]; · iexists _; iexact Ha
    isplitl [Hb]; · iexists _; iexact Hb
    iexact Hbufs
  isplitl [HsemL HsemG HsemO Hsems]
  · isplitl [HsemL]; · iexact HsemL
    isplitl [HsemG]; · iexact HsemG
    isplitl [HsemO]; · iexact HsemO
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Spans

end
-- ==== Proof.Call.lean ====
/-
  The call: each tile's obligation from its task, the arrays dealt to the sixteen tiles and put together again, and the
  ghost state the launch starts from.
-/
module

public import proofs.«01_k».proof.Proof.Tile

@[expose] public section

set_option maxRecDepth 16384

noncomputable section

namespace Cert.Proof.Spans

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

local notation "𝕄" => MT nD τ sig (HIx 1) (Elt F) ℕ UU ℕ

variable [FloatOps F]
variable (tb : (d : Dev nD) → Buf (Elt F) (tLoc d)) (li : (d : Dev nD) → Buf (Elt F) (iLoc d)) (ou : (d : Dev nD) → Buf (Elt F) (oLoc d))

/-! ## A tile's obligation -/

theorem defs₀_vector (c : Fin τ.nSC) (s : Fin τ.nSub) :
    defs₀ (F := F) (.scVector c s) 0 ()
      = SparseCore.onTile hcore0 hsub0 (fun c s => cc0__sc_body (coordsV c s) tblM (Memref.isWhole_whole _) idsM (Memref.isWhole_whole _)
            outM (Memref.isWhole_whole _) listM (Memref.isWhole_whole _) rowsM (Memref.isWhole_whole _) resM (Memref.isWhole_whole _)
            lowM (Memref.isWhole_whole _) highM (Memref.isWhole_whole _) cc0_scratch5 cc0_scoped0 cc0_scoped1) ⟨⟩ c s := rfl

omit [FloatOps F] in
/-- What a tile owes at its end, in the launch's words. -/
theorem owed_end {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hli : ListOK li) : (K (F := F)).TileObl (D (F := F)) 𝒱 (P tb li ou) v₀ 0 := by
  intro d c i O W hO _ _
  simp only [show (P (F := F) tb li ou).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have e : piece (coordsV ⟨_, hci.1⟩ ⟨_, hci.2⟩) = piece (tileAt (Fin.cast nSub_zero i)) := piece_congr rfl
  have h := tile_body tb li ou d (coordsV ⟨_, hci.1⟩ ⟨_, hci.2⟩) hF hli (shareOf (Fin.cast nSub_zero i)) O W hO
  unfold oAt at h
  rw [e] at h
  exact h.trans (wp_mono frame _ _ fun _ => owed_end)

/-! ## The arrays dealt to the tiles -/

theorem piece_disjoint : ∀ i ∈ (Finset.univ : Finset (Fin 16)), ∀ j ∈ (Finset.univ : Finset (Fin 16)), i ≠ j →
    Disjoint (piece (tileAt i)) (piece (tileAt j)) := fun i _ j _ h =>
  Finset.disjoint_left.mpr fun z hi hj => h (Fin.ext (((mem_outK _ z).mp hi).symm.trans ((mem_outK _ z).mp hj)))

theorem piece_cover : ((Finset.univ : Finset (Fin 16)).biUnion fun i => piece (tileAt i)) = Finset.univ := by
  refine Finset.eq_univ_iff_forall.mpr fun z => Finset.mem_biUnion.mpr ?_
  have h0 : (z 0).val < 4 := (z 0).isLt
  have h1 : (z 1).val < 1024 := (z 1).isLt
  exact ⟨⟨4 * (z 0).val + (z 1).val / 256, by omega⟩, Finset.mem_univ _, (mem_outK _ z).mpr rfl⟩

omit [FloatOps F] in
theorem oPts_pieces (d : Dev nD) (f : Buf (Elt F) (oLoc d)) :
    (oPts d f : sProp 𝕄) = bigSep Finset.univ fun w : Fin 16 => oPiece d w f := by
  unfold oPts oPiece
  rw [← pointsTo_biUnion Finset.univ (ℓ := oLoc d) (fun w => piece (tileAt w)) piece_disjoint, piece_cover]

omit [FloatOps F] in
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The three arrays whole, the result at `f`, are the sixteen tiles' holdings. -/
theorem dealt (d : Dev nD) (f : Buf (Elt F) (oLoc d)) :
    iprop(tPts tb d ∗ iPts li d ∗ oPts d f)
      = (bigSep Finset.univ fun i : Fin ((K (F := F)).nSub 0) =>
          iprop(tShare tb d (Fin.cast nSub_zero i) ∗ iShare li d (Fin.cast nSub_zero i) ∗ oPiece d (Fin.cast nSub_zero i) f) : sProp 𝕄) := by
  rw [bigSep_tiles (F := F) (fun w => iprop(tShare tb d w ∗ iShare li d w ∗ oPiece d w f)), bigSep_sep', bigSep_sep', oPts_pieces]
  unfold tPts iPts tShare iShare
  rw [pointsTo_shares, pointsTo_shares]

theorem vecSplit : (K (F := F)).VecSplit' (P tb li ou) 0 := by
  intro d c
  show iprop(tPts tb d ∗ iPts li d ∗ oPts d (ou d)) ⊢ |={Set.univ}=> iprop(
      (bigSep Finset.univ fun i : Fin ((K (F := F)).nSub 0) =>
        iprop(tShare tb d (Fin.cast nSub_zero i) ∗ iShare li d (Fin.cast nSub_zero i) ∗ oPiece d (Fin.cast nSub_zero i) (ou d)))
      ∗ ((bigSep Finset.univ fun i : Fin ((K (F := F)).nSub 0) =>
        iprop(tShare tb d (Fin.cast nSub_zero i) ∗ iShare li d (Fin.cast nSub_zero i) ∗ oPiece d (Fin.cast nSub_zero i) (res tb li d)))
          -∗ iprop(tPts tb d ∗ iPts li d ∗ oPts d (res tb li d))))
  rw [dealt tb li d (ou d), dealt tb li d (res tb li d)]
  iintro H; imodintro
  isplitl [H]; · iexact H
  iintro H; iexact H

theorem st_eq (d : Dev nD) :
    (bigSep Finset.univ fun c : Fin ((K (F := F)).nCore 0) => (P tb li ou).st 0 d c) = iprop(tPts tb d ∗ iPts li d ∗ oPts d (ou d)) :=
  bigSep_univ_of_subsingleton (0 : Fin 1)
theorem dn_eq (d : Dev nD) :
    (bigSep Finset.univ fun c : Fin ((K (F := F)).nCore 0) => (P tb li ou).dn 0 d c) = iprop(tPts tb d ∗ iPts li d ∗ oPts d (res tb li d)) :=
  bigSep_univ_of_subsingleton (0 : Fin 1)

/-! ## The ghost state at the launch -/

def u₀ : UU := (initOf (K (F := F)).hsCells (K (F := F)).hsToks, 1)

omit [FloatOps F] in
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb li ou).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P (F := F) tb li ou).x q thr)
      = bigSep Finset.univ fun _ => iprop(emp) from bigSep_congr fun _ _ => bigSep_univ_of_subsingleton (0 : Fin 1), bigSep_nothing]
  iempintro

end Cert.Proof.Spans

end
-- ==== Proof.Run.lean ====
/-
  The program's run: the host operations that lay out the table and the list, the call, and what the memory holds when
  every thread has ended.
-/
module

public import proofs.«01_k».proof.Proof.Call

@[expose] public section

set_option maxRecDepth 16384

noncomputable section

namespace Cert.Proof.Spans

open Cert.KernelIdeal Cert.KernelIdeal.Gen
open Idealize.ShloMosaic
open Idealize.ShloMosaic.SparseCore (S V)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

local notation "𝕄" => MT nD τ sig (HIx 1) (Elt F) ℕ UU ℕ

variable [FloatOps F]

/-! ## What the host operations leave -/

/-- The operations before the call. -/
abbrev layout : List (HloOp τ sig (Elt F)) :=
  [StableHlo.nullary main_c (fun i => lit0 (S4x2.rowMajor i)),
   StableHlo.nullary main_c_0 (fun i => lit1 (S8.rowMajor i)),
   StableHlo.reshape main_arg0 main_v0 (rfl : (.f32 : EltTy) = .f32) shapeCasts_S4x8192x1024_S262144x128,
   StableHlo.binary main_arg1 main_c main_v1 (addi : (⟨S4x2, .i32⟩ : BufTy).Contents (Elt F) → (⟨S4x2, .i32⟩ : BufTy).Contents (Elt F) → (⟨S4x2, .i32⟩ : BufTy).Contents (Elt F)),
   StableHlo.unary main_v1 main_v2 (broadcastInDim S4x2x1 ![0, 1] bcast_S4x2_S4x2x1_0_1 : (⟨S4x2, .i32⟩ : BufTy).Contents (Elt F) → (⟨S4x2x1, .i32⟩ : BufTy).Contents (Elt F)),
   StableHlo.nullary main_c_1 (constantI S_ 32 8#32),
   StableHlo.unary main_c_1 main_v3 (broadcastInDim S4x2x1 ![] bcast_S_S4x2x1 : (⟨S_, .i32⟩ : BufTy).Contents (Elt F) → (⟨S4x2x1, .i32⟩ : BufTy).Contents (Elt F)),
   StableHlo.binary main_v2 main_v3 main_v4 (muli : (⟨S4x2x1, .i32⟩ : BufTy).Contents (Elt F) → (⟨S4x2x1, .i32⟩ : BufTy).Contents (Elt F) → (⟨S4x2x1, .i32⟩ : BufTy).Contents (Elt F)),
   StableHlo.unary main_c_0 main_v5 (broadcastInDim S1x1x8 ![2] bcast_S8_S1x1x8_2 : (⟨S8, .i32⟩ : BufTy).Contents (Elt F) → (⟨S1x1x8, .i32⟩ : BufTy).Contents (Elt F)),
   StableHlo.unary main_v4 main_v6 (broadcastInDim S4x2x8 ![0, 1, 2] bcast_S4x2x1_S4x2x8_0_1_2 : (⟨S4x2x1, .i32⟩ : BufTy).Contents (Elt F) → (⟨S4x2x8, .i32⟩ : BufTy).Contents (Elt F)),
   StableHlo.unary main_v5 main_v7 (broadcastInDim S4x2x8 ![0, 1, 2] bcast_S1x1x8_S4x2x8_0_1_2 : (⟨S1x1x8, .i32⟩ : BufTy).Contents (Elt F) → (⟨S4x2x8, .i32⟩ : BufTy).Contents (Elt F)),
   StableHlo.binary main_v6 main_v7 main_v8 (addi : (⟨S4x2x8, .i32⟩ : BufTy).Contents (Elt F) → (⟨S4x2x8, .i32⟩ : BufTy).Contents (Elt F) → (⟨S4x2x8, .i32⟩ : BufTy).Contents (Elt F)),
   StableHlo.reshape main_v8 main_v9 (rfl : (.i32 : EltTy) = .i32) shapeCasts_S4x2x8_S4x16]

open StableHlo in
theorem layout_sub : (layout (F := F)).Forall fun op => op.bufs ⊆ tcRefs τ sig :=
  ⟨nullary_bufs_sub .., nullary_bufs_sub .., reshape_bufs_sub .., binary_bufs_sub .., unary_bufs_sub .., nullary_bufs_sub .., unary_bufs_sub ..,
    binary_bufs_sub .., unary_bufs_sub .., unary_bufs_sub .., unary_bufs_sub .., binary_bufs_sub .., reshape_bufs_sub ..⟩

theorem layout_fresh : (layout (F := F)).Forall fun op => op.fresh = ∅ := ⟨rfl, rfl, rfl, rfl, rfl, rfl, rfl, rfl, rfl, rfl, rfl, rfl, rfl⟩

theorem main_eq (d : Dev nD) : main (F := F) d = StableHlo.seq layout >>= fun _ => sc.run d 0 >>= fun _ => pure ⟨⟩ := by
  simp only [main, layout, StableHlo.seq, bind_assoc, pure_bind]

/-- The table: the encoding's elements in order, 128 to a row. -/
def tableOf (x : S4x8192x1024.Idx → Elt F .f32) : S262144x128.Idx → Elt F .f32 :=
  shapeCast S262144x128 x shapeCasts_S4x8192x1024_S262144x128

/-- The list: for either endpoint of a batch's span, the eight rows of the table its row of the encoding is. -/
def listOf (p : S4x2.Idx → BitVec 32) : S4x16.Idx → BitVec 32 :=
  shapeCast S4x16
    (fun i : S4x2x8.Idx => (p (ValueIdx.ix2 (i 0) (i 1)) + lit0 (S4x2.rowMajor (ValueIdx.ix2 (i 0) (i 1)))) * 8#32 + lit1 (S8.rowMajor (ValueIdx.ix1 (i 2))))
    shapeCasts_S4x2x8_S4x16

/-- The buffers of device `d` when the call starts. -/
abbrev laid (m : (ℓ : Loc nD τ sig) → Buf (Elt F) ℓ) (d : Dev nD) : Valuation τ sig (Elt F) :=
  StableHlo.after layout fun b => m (d, b)

variable (m : (ℓ : Loc nD τ sig) → Buf (Elt F) ℓ) (ρ : Dev nD → PrngReg)

abbrev xLoc (d : Dev nD) : Loc nD τ sig := (SparseCore.T d).loc main_arg0
abbrev pLoc (d : Dev nD) : Loc nD τ sig := (SparseCore.T d).loc main_arg1

abbrev tbl (d : Dev nD) : Buf (Elt F) (tLoc d) := tableOf (m (xLoc d))
abbrev ids (d : Dev nD) : Buf (Elt F) (iLoc d) := listOf (m (pLoc d))
abbrev old (d : Dev nD) : Buf (Elt F) (oLoc d) := m (oLoc d)

theorem laid_arg0 (d : Dev nD) : laid m d (Proc.devRef .tc main_arg0) = m (xLoc d) := by after_results_simp <;> rfl
theorem laid_arg1 (d : Dev nD) : laid m d (Proc.devRef .tc main_arg1) = m (pLoc d) := by after_results_simp <;> rfl
theorem laid_v10 (d : Dev nD) : laid m d (Proc.devRef .tc main_v10) = old m d := by after_results_simp <;> rfl
theorem laid_v0 (d : Dev nD) : laid m d (Proc.devRef .tc main_v0) = tbl m d := by after_results_simp <;> rfl
theorem laid_v9 (d : Dev nD) : laid m d (Proc.devRef .tc main_v9) = ids m d := by
  after_results_simp
  refine congrArg (fun f : S4x2x8.Idx → BitVec 32 => shapeCast S4x16 f shapeCasts_S4x2x8_S4x16) (funext fun i => ?_)
  have e2 (p : S4x2.Idx → BitVec 32) {u v : S4x2.Idx} (h : ∀ a, u a = v a) : p u + lit0 (S4x2.rowMajor u) = p v + lit0 (S4x2.rowMajor v) :=
    congrArg (fun k => p k + lit0 (S4x2.rowMajor k)) (funext h)
  have e1 {u v : S8.Idx} (h : ∀ a, u a = v a) : lit1 (S8.rowMajor u) = lit1 (S8.rowMajor v) :=
    congrArg (fun k => lit1 (S8.rowMajor k)) (funext h)
  exact congrArg₂ (fun a b : BitVec 32 => a * 8#32 + b) (e2 (m (pLoc d)) fun a => by fin_cases a <;> rfl) (e1 fun a => by fin_cases a; rfl)

/-! ## @main on the TensorCore -/

omit [FloatOps F] in
/-- The arguments, the table, the list and the result are among the unscoped buffers. -/
theorem unscoped_parts (d : Dev nD) (W : (b : Ref sig .tc) → Buf (Elt F) ((d.tc : Thread nD τ).loc b)) :
    (unscopedBufs d W : sProp 𝕄)
      ⊢ iprop((xLoc d ↦{fullShare} W main_arg0) ∗ (pLoc d ↦{fullShare} W main_arg1) ∗ (tLoc d ↦{fullShare} W main_v0)
          ∗ (iLoc d ↦{fullShare} W main_v9) ∗ oLoc d ↦{fullShare} W main_v10) := by
  unfold unscopedBufs
  rw [SparseCore.bigSep_erase' (i := main_arg0) (by decide), SparseCore.bigSep_erase' (i := main_arg1) (by decide),
    SparseCore.bigSep_erase' (i := main_v0) (by decide), SparseCore.bigSep_erase' (i := main_v9) (by decide),
    SparseCore.bigSep_erase' (i := main_v10) (by decide)]
  iintro ⟨H0, H1, H2, H3, H4, -⟩
  isplitl [H0]; · iexact H0
  isplitl [H1]; · iexact H1
  isplitl [H2]; · iexact H2
  isplitl [H3]; · iexact H3
  iexact H4

/-- What is kept to the end: the arguments as they were, the result at the span vector. -/
abbrev FIN (d : Dev nD) : sProp 𝕄 :=
  iprop((xLoc d ↦{fullShare} m (xLoc d)) ∗ (pLoc d ↦{fullShare} m (pLoc d)) ∗ oPts d (res (tbl m) (ids m) d))

/-- The buffers the layout leaves, the five that matter. -/
theorem laid_parts (d : Dev nD) :
    (StableHlo.held (SparseCore.T d) (Pipeline.ucRefs τ sig) (laid m d) : sProp 𝕄)
      ⊢ iprop((xLoc d ↦{fullShare} m (xLoc d)) ∗ (pLoc d ↦{fullShare} m (pLoc d)) ∗ tPts (tbl m) d ∗ iPts (ids m) d ∗ oPts d (old m d)) := by
  have h := (Entails.of_eq (Pipeline.unscopedBufs_held (Ix := HIx 1) (Name := ℕ) (U := UU) (Lvl := ℕ) d (laid m d)).symm).trans
    (unscoped_parts d fun b => laid m d (Proc.devRef .tc b))
  rw [laid_arg0 m d, laid_arg1 m d, laid_v10 m d, laid_v0 m d, laid_v9 m d] at h
  exact h

theorem hmain (κ : GSem nD τ sig → ℕ) (d : Dev nD) :
    iprop((K (F := F)).ctx EH (P (tbl m) (ids m) (old m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = _ from Pipeline.unscopedBufs_held d fun b => m (d, b)]
  iintro ⟨#Hctx, Hst, ⟨Hb, Hu, Hts, -⟩, -⟩
  iapply (StableHlo.wp_seq 𝒱 none Set.univ d (Pipeline.ucRefs τ sig) (fun _ => sc.run d 0 >>= fun _ => pure ⟨⟩) layout
    (fun op h => Pipeline.sub_ucRefs op (List.forall_iff_forall_mem.mp layout_sub op h)) (List.forall_iff_forall_mem.mp layout_fresh) (fun b => m (d, b))) $$ [Hb Hu]
  · isplitl [Hb]; · iexact Hb
    iexact Hu
  iintro ⟨Hb, Hu⟩
  ihave Hu' := (laid_parts m d) $$ Hu
  icases Hu' with ⟨Hx, Hp, Ht, Hi, Ho⟩
  simp only [wp_bind, wp_pure]
  iapply ((K (F := F)).wp_run (D (F := F)) 𝒱 (EH := EH) (P := P (tbl m) (ids m) (old m)) κ d 0) $$ [Hst Ht Hi Ho Hx Hp Hb Hts]
  isplitr; · iexact Hctx
  isplitl [Hst]; · iexact Hst
  isplitl [Ht Hi Ho]
  · rw [st_eq]
    isplitl [Ht]; · iexact Ht
    isplitl [Hi]; · iexact Hi
    iexact Ho
  iintro ⟨Hst, Hdn⟩
  ihave Hdn' := (Entails.of_eq (dn_eq (tbl m) (ids m) (old m) d)) $$ Hdn
  icases Hdn' with ⟨-, -, Ho⟩
  imodintro
  isplitl [Hst]; · iexact Hst
  isplitr [Hb Hts]
  · isplitl [Hx]; · iexact Hx
    isplitl [Hp]; · iexact Hp
    iexact Ho
  isplitl [Hb] <;> iassumption

/-! ## The memory at the end -/

def ends (d : Dev nD) (s : Phys nD τ sig (Elt F)) : Prop :=
  s.mem.mem (xLoc d) = m (xLoc d) ∧ s.mem.mem (pLoc d) = m (pLoc d) ∧ s.mem.mem (oLoc d) = res (tbl m) (ids m) d

omit [FloatOps F] in
/-- An array held whole is what the memory has there, and is still held. -/
theorem read_whole (s : Phys nD τ sig (Elt F)) (ℓ : Loc nD τ sig) (f : Buf (Elt F) ℓ) :
    (iprop((ℓ ↦{fullShare} f) ∗ SI s) : sProp 𝕄) ⊢ iprop(⌜s.mem.mem ℓ = f⌝ ∗ SI s) := by
  iintro ⟨H, HS⟩
  ihave H' := (persistent_entails_right (SI_pointsTo_agree (st := s) (ℓ := ℓ) (I := Finset.univ) (q := fullShare) (f := f))) $$ [HS H]
  · isplitl [HS] <;> iassumption
  icases H' with ⟨%h, HS, -⟩
  isplitr
  · ipureintro; exact funext fun i => h i (Finset.mem_univ i)
  iexact HS

theorem hfin (d : Dev nD) (s : Phys nD τ sig (Elt F)) : iprop(FIN m d ∗ SI s) ⊢ (⌜ends m d s⌝ : sProp 𝕄) := by
  iintro ⟨⟨Hx, Hp, Ho⟩, HS⟩
  ihave H := (read_whole s (xLoc d) _) $$ [Hx HS]
  · isplitl [Hx] <;> iassumption
  icases H with ⟨%h1, HS⟩
  ihave H := (read_whole s (pLoc d) _) $$ [Hp HS]
  · isplitl [Hp] <;> iassumption
  icases H with ⟨%h2, HS⟩
  ihave H := (read_whole s (oLoc d) _) $$ [Ho HS]
  · isplitl [Ho] <;> iassumption
  icases H with ⟨%h3, -⟩
  ipureintro; exact ⟨h1, h2, h3⟩

/-- The run's end: the arguments unchanged, the result the span vector of the table and the list, every semaphore zero. -/
def Ends : PUnit × MemSt nD τ sig (Elt F) → Prop := fun r =>
  (∀ c : Dev nD, r.2.mem (xLoc c) = m (xLoc c) ∧ r.2.mem (pLoc c) = m (pLoc c) ∧ r.2.mem (oLoc c) = res (tbl m) (ids m) c) ∧ r.2.sem = fun _ => 0

theorem run_main [∀ e, Nonempty (Elt F e)] (hli : ListOK (ids m)) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P (tbl m) (ids m) (old m)) (A := ∅) facts v₀
    (fun q hq => match q with | 0 => nomatch hq)
    (fun q _ => match q with | 0 => tileObl _ _ _ facts hli)
    (fun q _ => match q with | 0 => SparseCore.Cfg.VecSplit.of_plain (vecSplit _ _ _))
    m ρ main (fun _ => iprop(emp)) (FIN m) (u₀ (F := F)) (sep_elim_left.trans (hu₀ _ _ _)) (hmain m ρ) (ends m) (hfin m) (Ends m)
    (fun _ h hz => ⟨h, hz⟩)

end Cert.Proof.Spans

end
-- ==== Proof.Ranges.lean ====
/-
  The preconditions read: where the span's ends lie, and that the encoding is finite.
-/
module

public import proofs.«01_k».proof.Pre_span_range
public import proofs.«01_k».proof.Pre_finite_spans
public import Idealize.ShloMosaic.Lib.ReduceAll
public import Idealize.ShloMosaic.Lib.StableHlo.Predicate
public import Idealize.ShloMosaic.Lib.KernelVsHost
public import Idealize.ShloMosaic.Lib.Pointwise

@[expose] public section

set_option maxRecDepth 16384

noncomputable section

namespace Cert.Proof.Spans

open Idealize.ShloMosaic

/-- Every span starts at a row of the encoding and ends at most one past its last. -/
def InRange (p : (⟨2, ![4, 2]⟩ : Shape).Idx → BitVec 32) : Prop :=
  ∀ b : Fin 4, (p (ix2 b (0 : Fin 2))).toNat < 8192 ∧ 1 ≤ (p (ix2 b (1 : Fin 2))).toNat ∧ (p (ix2 b (1 : Fin 2))).toNat ≤ 8192

/-- Every element of the encoding is finite. -/
def Finite (x : (⟨3, ![4, 8192, 1024]⟩ : Shape).Idx → EReal) : Prop := ∀ i, x i ≠ ⊤ ∧ x i ≠ ⊥

theorem start_range (v : BitVec 32) (h : IntOp.andi (IntOp.cmpi .sge v 0#32) (IntOp.cmpi .slt v 8192#32) = 1#1) : v.toNat < 8192 := by
  obtain ⟨h0, h1⟩ := IntOp.andi_eq_one.1 h
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  omega

theorem end_range (v : BitVec 32) (h : IntOp.andi (IntOp.cmpi .sge v 1#32) (IntOp.cmpi .sle v 8192#32) = 1#1) :
    1 ≤ v.toNat ∧ v.toNat ≤ 8192 := by
  obtain ⟨h0, h1⟩ := IntOp.andi_eq_one.1 h
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  omega

instance : Subsingleton Cert.Pre_span_range.S_.Idx := ⟨fun _ _ => funext fun a => a.elim0⟩
instance : Subsingleton Cert.Pre_finite_spans.S_.Idx := ⟨fun _ _ => funext fun a => a.elim0⟩

theorem inRange_of_span_range {F : FTy → Type} [FloatOps F] [Cert.Pre_span_range.Facts] (x : Cert.Pre_span_range.S4x8192x1024.Idx → F .f32)
    (p : Cert.Pre_span_range.S4x2.Idx → BitVec 32) (h : Cert.Pre_span_range.fn (F := F) x p = fun _ => 1#1) : InRange p := by
  have e := congrFun h fun a => a.elim0
  simp only [Cert.Pre_span_range.fn] at e
  obtain ⟨e0, e1⟩ := IntOp.andi_eq_one.1 e
  intro b
  have h0 := Host.reduce_andi_all _ _ _ _ _ e0 (ix1 b)
  have h1 := Host.reduce_andi_all _ _ _ _ _ e1 (ix1 b)
  clear e e0 e1 h
  pointwise at h0 h1
  exact ⟨start_range _ h0, end_range _ h1⟩

theorem finite_of_abs (v : Ideal .f32)
    (h : FloatOps.cmpf .olt (FloatOps.hostAbsf v) (FloatOps.ofBits (F := Ideal) .f32 0x7F800000#32) = 1#1) : (v : EReal) ≠ ⊤ ∧ (v : EReal) ≠ ⊥ := by
  rw [← Ideal.xori_weird_eq_hostAbsf_olt_inf] at h
  have h' : ¬ ((v : EReal) = ⊤ ∨ (v : EReal) = ⊥) := fun hv => by
    rw [show FloatOps.weird v = 1#1 from congrArg BitVec.ofBool (decide_eq_true hv)] at h
    exact absurd h (by decide)
  exact not_or.mp h'

theorem of_finite_spans [Cert.Pre_finite_spans.Facts] (x : Cert.Pre_finite_spans.S4x8192x1024.Idx → Ideal .f32)
    (p : Cert.Pre_finite_spans.S4x2.Idx → BitVec 32) (h : Cert.Pre_finite_spans.fn (F := Ideal) x p = fun _ => 1#1) :
    InRange p ∧ Finite x := by
  have e := congrFun h fun a => a.elim0
  simp only [Cert.Pre_finite_spans.fn, Cert.Pre_finite_spans.fn_part1] at e
  obtain ⟨e01, e2⟩ := IntOp.andi_eq_one.1 e
  obtain ⟨e0, e1⟩ := IntOp.andi_eq_one.1 e01
  constructor
  · intro b
    have h0 := Host.reduce_andi_all _ _ _ _ _ e0 (ix1 b)
    have h1 := Host.reduce_andi_all _ _ _ _ _ e1 (ix1 b)
    clear e e0 e1 e01 e2 h
    pointwise at h0 h1
    exact ⟨start_range _ h0, end_range _ h1⟩
  · intro i
    exact finite_of_abs _ (Host.reduce_andi_all _ _ _ _ _ e2 i)

end Cert.Proof.Spans

end
-- ==== Proof.List.lean ====
/-
  The kernel's operands read: the table's rows are the encoding's, eight to a row, and the list names the eight of the row a
  span starts at, then the eight of the last row before its end. So the kernel's result, of the encoding and the spans.
-/
module

public import proofs.«01_k».proof.Proof.Run
public import proofs.«01_k».proof.Proof.Ranges

@[expose] public section

set_option maxRecDepth 16384

noncomputable section

namespace Cert.Proof.Spans

open Idealize.ShloMosaic
open Cert.KernelIdeal Cert.KernelIdeal.Gen

variable {F : FTy → Type} [FloatOps F]

theorem tableOf_apply (x : S4x8192x1024.Idx → Elt F .f32) (r : Fin 262144) (l : Fin 128) :
    tableOf x (ix2 r l) = x (ix3 ⟨r.val / 65536, by omega⟩ ⟨r.val / 8 % 8192, by omega⟩ ⟨r.val % 8 * 128 + l.val, by omega⟩) := by
  unfold tableOf
  pointwise

/-- What the list adds to an end of span `b`: the encodings before its own, less one at the span's end. -/
theorem shift_eq : ∀ (b : Fin 4) (e : Fin 2), lit0 (S4x2.rowMajor (ValueIdx.ix2 b e)) = BitVec.ofNat 32 (8192 * b.val) - BitVec.ofNat 32 e.val := by
  decide +kernel

theorem piece_eq : ∀ j : Fin 8, lit1 (S8.rowMajor (ValueIdx.ix1 j)) = BitVec.ofNat 32 j.val := by decide +kernel

theorem row_word (v : BitVec 32) (b e j row : ℕ) (hb : b < 4) (he : e < 2) (hj : j < 8) (hrow : row < 8192) (h : v.toNat = row + e) :
    ((v + (BitVec.ofNat 32 (8192 * b) - BitVec.ofNat 32 e)) * 8#32 + BitVec.ofNat 32 j).toNat = (8192 * b + row) * 8 + j := by
  simp only [BitVec.toNat_add, BitVec.toNat_mul, BitVec.toNat_sub, BitVec.toNat_ofNat, h]
  omega

/-- The row of the encoding that end `e` of a span names: its start, or the last row before its end. -/
theorem listOf_apply (p : S4x2.Idx → BitVec 32) (b : Fin 4) (k : Fin 16) (row : ℕ) (hrow : row < 8192)
    (h : (p (ix2 b ⟨k.val / 8, by omega⟩)).toNat = row + k.val / 8) :
    (listOf p (ix2 b k)).toNat = (8192 * b.val + row) * 8 + k.val % 8 := by
  have hk := k.isLt
  unfold listOf
  pointwise
  rw [shift_eq, piece_eq]
  exact row_word _ _ _ _ row b.isLt (by show k.val / 8 < 2; omega) (by show k.val % 8 < 8; omega) hrow h

/-- Every row the list names is one of the table's. -/
theorem listOf_lt (p : S4x2.Idx → BitVec 32) (hp : InRange p) (j : S4x16.Idx) : (listOf p j).toNat < 262144 := by
  obtain ⟨b, k, rfl⟩ : ∃ (b : Fin 4) (k : Fin 16), j = ix2 b k := ⟨j 0, j 1, ValueIdx.eq_ix2 j⟩
  obtain ⟨h0, h1, h2⟩ := hp b
  have hb := b.isLt
  have hk := k.isLt
  by_cases hlt : k.val < 8
  · rw [listOf_apply p b k (p (ix2 b 0)).toNat h0 (by
      rw [show (⟨k.val / 8, by omega⟩ : Fin 2) = 0 from Fin.ext (by show k.val / 8 = 0; omega)]; omega)]
    omega
  · rw [listOf_apply p b k ((p (ix2 b 1)).toNat - 1) (by omega) (by
      rw [show (⟨k.val / 8, by omega⟩ : Fin 2) = 1 from Fin.ext (by show k.val / 8 = 1; omega)]; omega)]
    omega

/-- A lane of an end's row, among the rows gathered for its span, is the encoding's. -/
theorem lane_eq (x : S4x8192x1024.Idx → Elt F .f32) (p : S4x2.Idx → BitVec 32) (b : Fin 4) (e : Fin 2) (s : Fin 1024) (row : Fin 8192)
    (h : (p (ix2 b e)).toNat = row.val + e.val) :
    lane (F := F) (gathered (tableOf x) (listOf p) b) e.val s.val = x (ix3 b row s) := by
  have hs := s.isLt
  have he := e.isLt
  have hb := b.isLt
  have hr := row.isLt
  have hl := listOf_apply p b ⟨(8 * e.val + s.val / 128) % 16, Nat.mod_lt _ (by decide)⟩ row.val hr (by
    rw [show (⟨(8 * e.val + s.val / 128) % 16 / 8, by omega⟩ : Fin 2) = e from Fin.ext (by show (8 * e.val + s.val / 128) % 16 / 8 = e.val; omega), h]
    show _ = row.val + (8 * e.val + s.val / 128) % 16 / 8
    omega)
  show tableOf x (ix2 (rowOf (listOf p (ix2 b ⟨(8 * e.val + s.val / 128) % 16, _⟩))) ⟨s.val % 128, _⟩) = _
  rw [tableOf_apply]
  have hv : (rowOf (listOf p (ix2 b ⟨(8 * e.val + s.val / 128) % 16, Nat.mod_lt _ (by decide)⟩))).val = (8192 * b.val + row.val) * 8 + s.val / 128 := by
    refine (congrArg (· % 262144) hl).trans ?_
    show ((8192 * b.val + row.val) * 8 + (8 * e.val + s.val / 128) % 16 % 8) % 262144 = _
    omega
  congr 1
  have e0 : ∀ (w : Fin 262144), w.val = (8192 * b.val + row.val) * 8 + s.val / 128 →
      (ix3 ⟨w.val / 65536, by omega⟩ ⟨w.val / 8 % 8192, by omega⟩ ⟨w.val % 8 * 128 + s.val % 128, by omega⟩ : S4x8192x1024.Idx) = ix3 b row s := by
    intro w hw
    congr 1 <;> apply Fin.ext
    · show w.val / 65536 = b.val; omega
    · show w.val / 8 % 8192 = row.val; omega
    · show w.val % 8 * 128 + s.val % 128 = s.val; omega
  exact e0 _ hv

/-- The kernel's result at a span and a lane: the end row's lane less the start row's, by the half's sign. -/
theorem spanVal_apply (x : S4x8192x1024.Idx → Elt F .f32) (p : S4x2.Idx → BitVec 32) (b : Fin 4) (k s : Fin 1024) (r0 r1 : Fin 8192)
    (hs : s.val = 2 * (k.val % 512) + k.val / 512) (h0 : (p (ix2 b 0)).toNat = r0.val) (h1 : (p (ix2 b 1)).toNat = r1.val + 1) :
    spanVal (F := F) (tableOf x) (listOf p) (ix2 b k)
      = FloatOps.mulf (sgn (k.val / 512)) (FloatOps.subf (x (ix3 b r1 s)) (x (ix3 b r0 s))) := by
  rw [← lane_eq (F := F) x p b 0 s r0 h0, ← lane_eq (F := F) x p b 1 s r1 h1, hs]
  rfl

end Cert.Proof.Spans

end
-- ==== Proof.Reference.lean ====
/-
  What the reference computes, element by element: each of its two gathers reads one row of the encoding per span, and its
  result is the even lanes' differences of those rows, then the odd lanes'.
-/
module

public import proofs.«01_k».proof.Proof.Gen.ReferenceIdeal.Run
public import proofs.«01_k».proof.Proof.Ranges

@[expose] public section

set_option maxRecDepth 16384

noncomputable section

namespace Cert.Proof.Spans

open Idealize.ShloMosaic
open Cert.ReferenceIdeal Cert.ReferenceIdeal.Value Cert.ReferenceIdeal.Facts₀

/-- The start indices of one gather of the reference: beside each span's number, the row `v` names for it, negative ones
    counted from the end as the array library counts them. -/
def picks (v : S4.Idx → BitVec 32) : S4x2.Idx → BitVec 32 :=
  concatenate S4x2 1 [⟨S4x1, (broadcastInDim S4x1 ![0] bcast_S4_S4x1_0 (select (cmpi .slt (iotaInDim S4 32 0) (broadcastInDim S4 ![] bcast_S_S4 (constantI S_ 32 0#32))) (addi (iotaInDim S4 32 0) (broadcastInDim S4 ![] bcast_S_S4 (constantI S_ 32 4#32))) (iotaInDim S4 32 0)))⟩,
    ⟨S4x1, (broadcastInDim S4x1 ![0] bcast_S4_S4x1_0 (select (cmpi .slt v (broadcastInDim S4 ![] bcast_S_S4 (constantI S_ 32 0#32))) (addi v (broadcastInDim S4 ![] bcast_S_S4 (constantI S_ 32 8192#32))) v))⟩] concatenates_S4x1_S4x1_S4x2_d1

/-- The rows the spans start at, and the rows they end at. -/
def starts (p : S4x2.Idx → BitVec 32) : S4.Idx → BitVec 32 :=
  shapeCast _ (extractStridedSlice S4x1 ![0, 0] p slices_S4x2_S4x1_0_0) shapeCasts_S4x1_S4
def ends1 (p : S4x2.Idx → BitVec 32) : S4.Idx → BitVec 32 :=
  subi (shapeCast _ (extractStridedSlice S4x1 ![0, 1] p slices_S4x2_S4x1_0_1) shapeCasts_S4x1_S4) (broadcastInDim S4 ![] bcast_S_S4 (constantI S_ 32 1#32))

theorem not_slt_zero (v : BitVec 32) (h : v.toNat < 2 ^ 31) : IntOp.cmpi .slt v 0#32 = 0#1 := by
  have h' : v.slt 0#32 = false := by
    rw [BitVec.slt_eq_decide, decide_eq_false_iff_not, BitVec.toInt_eq_toNat_of_lt (by omega)]
    simp
  unfold IntOp.cmpi
  simp only [h']
  rfl

theorem starts_apply (p : S4x2.Idx → BitVec 32) (b : Fin 4) : starts p (ix1 b) = p (ix2 b 0) := by
  unfold starts
  pointwise

theorem ends1_apply (p : S4x2.Idx → BitVec 32) (b : Fin 4) : ends1 p (ix1 b) = p (ix2 b 1) - 1#32 := by
  unfold ends1
  pointwise
  rfl

theorem picks_zero (v : S4.Idx → BitVec 32) (b : Fin 4) : picks v (ix2 b 0) = BitVec.ofNat 32 b.val := by
  unfold picks
  pointwise
  fin_cases b <;> decide

theorem picks_one (v : S4.Idx → BitVec 32) (b : Fin 4) (h : (v (ix1 b)).toNat < 2 ^ 31) : picks v (ix2 b 1) = v (ix1 b) := by
  unfold picks
  pointwise
  rw [not_slt_zero _ h]
  rfl

/-- A gather of the reference reads, at a span and a lane, the encoding's row the start indices name there. -/
theorem gather_apply {F : FTy → Type} (x : S4x8192x1024.Idx → F .f32) (idx : S4x2.Idx → BitVec 32) (b : Fin 4) (s : Fin 1024) (r : Fin 8192)
    (h0 : idx (ix2 b 0) = BitVec.ofNat 32 b.val) (h1 : (idx (ix2 b 1)).toNat = r.val) :
    Host.gather gather_S4x8192x1024_S4x2_S4x1024_1_01_n_n_01_1_111024 x idx (ix2 b s) = x (ix3 b r s) := by
  have hb := b.isLt
  have hr := r.isLt
  unfold Host.gather
  refine congrArg x (funext fun a => Fin.ext ?_)
  show GatherDims.start _ (ix2 b s) idx a + GatherDims.batchCoord _ (ix2 b s) a + GatherDims.offCoord _ (ix2 b s) a = _
  rw [GatherDims.batchCoord_eq_zero _ _ _ (List.not_mem_nil), Nat.add_zero]
  match a with
  | ⟨0, _⟩ =>
    rw [GatherDims.offCoord_eq_zero _ _ _ (fun h => ((GatherDims.mem_sKept _ _).mp h).1 (by decide : (0 : Fin 3) ∈ ([0, 1] : List (Fin 3)))), Nat.add_zero]
    unfold GatherDims.start
    refine (dif_pos (by decide : (0 : Fin 3) ∈ ([0, 1] : List (Fin 3)))).trans ?_
    rw [show idx (GatherDims.siIdx _ (ix2 b s) _) = idx (ix2 b 0) from congrArg idx (funext fun k => Fin.ext (by
      match k with
      | ⟨0, _⟩ => rfl
      | ⟨1, _⟩ => rfl)), h0, StableHlo.Predicate.toInt_ofNat_small _ (by omega)]
    show min ((b.val : Int)).toNat (4 - 1) = b.val
    omega
  | ⟨1, _⟩ =>
    rw [GatherDims.offCoord_eq_zero _ _ _ (fun h => ((GatherDims.mem_sKept _ _).mp h).1 (by decide : (1 : Fin 3) ∈ ([0, 1] : List (Fin 3)))), Nat.add_zero]
    unfold GatherDims.start
    refine (dif_pos (by decide : (1 : Fin 3) ∈ ([0, 1] : List (Fin 3)))).trans ?_
    rw [show idx (GatherDims.siIdx _ (ix2 b s) _) = idx (ix2 b 1) from congrArg idx (funext fun k => Fin.ext (by
      match k with
      | ⟨0, _⟩ => rfl
      | ⟨1, _⟩ => rfl)), BitVec.toInt_eq_toNat_of_lt (by omega), h1]
    show min ((r.val : Int)).toNat (8192 - 1) = r.val
    omega
  | ⟨2, _⟩ =>
    unfold GatherDims.start
    refine (congrArg (· + _) (dif_neg (by decide : ¬ (2 : Fin 3) ∈ ([0, 1] : List (Fin 3))))).trans ?_
    exact Nat.zero_add _

/-- The rows one gather of the reference reads. -/
def readRows {F : FTy → Type} (x : S4x8192x1024.Idx → F .f32) (v : S4.Idx → BitVec 32) : S4x1024.Idx → F .f32 :=
  Host.gather gather_S4x8192x1024_S4x2_S4x1024_1_01_n_n_01_1_111024 x (picks v)

theorem readRows_apply {F : FTy → Type} (x : S4x8192x1024.Idx → F .f32) (v : S4.Idx → BitVec 32) (b : Fin 4) (s : Fin 1024) (r : Fin 8192)
    (h : (v (ix1 b)).toNat = r.val) : readRows x v (ix2 b s) = x (ix3 b r s) := by
  have hr := r.isLt
  refine gather_apply x (picks v) b s r (picks_zero v b) ?_
  rw [picks_one v b (by omega), h]

variable {F : FTy → Type} [FloatOps F]

/-- The reference's result, of the encoding and the spans. -/
def spanRef (x : S4x8192x1024.Idx → F .f32) (p : S4x2.Idx → BitVec 32) : S4x1024.Idx → F .f32 :=
  concatenate S4x1024 1
    [⟨S4x512, (subf (Host.slice S4x512 ![0, 0] ![1, 2] (readRows x (ends1 p)) slicesBy_S4x1024_S4x512_0s1_0s2)
        (Host.slice S4x512 ![0, 0] ![1, 2] (readRows x (starts p)) slicesBy_S4x1024_S4x512_0s1_0s2) : FVec F S4x512 .f32)⟩,
      ⟨S4x512, (subf (Host.slice S4x512 ![0, 1] ![1, 2] (readRows x (starts p)) slicesBy_S4x1024_S4x512_0s1_1s2)
        (Host.slice S4x512 ![0, 1] ![1, 2] (readRows x (ends1 p)) slicesBy_S4x1024_S4x512_0s1_1s2) : FVec F S4x512 .f32)⟩]
    concatenates_S4x512_S4x512_S4x1024_d1

theorem result_eq (m : (ℓ : Loc nD τ sig) → Buf (Elt F) ℓ) (c : Dev nD) :
    res_main_v41 m c = spanRef (F := F) (m ((c.tc : Thread nD τ).loc main_arg0)) (m ((c.tc : Thread nD τ).loc main_arg1)) := by
  unfold res_main_v41 spanRef readRows picks ends1 starts
  rfl

theorem starts_row (p : S4x2.Idx → BitVec 32) (b : Fin 4) (r : Fin 8192) (h : (p (ix2 b 0)).toNat = r.val) :
    (starts p (ix1 b)).toNat = r.val := by
  rw [starts_apply, h]

theorem ends1_row (p : S4x2.Idx → BitVec 32) (b : Fin 4) (r : Fin 8192) (h : (p (ix2 b 1)).toNat = r.val + 1) :
    (ends1 p (ix1 b)).toNat = r.val := by
  have hr := r.isLt
  rw [ends1_apply, BitVec.toNat_sub, h, BitVec.toNat_ofNat]
  omega

theorem spanRef_even (x : S4x8192x1024.Idx → F .f32) (p : S4x2.Idx → BitVec 32) (b : Fin 4) (k : Fin 1024) (hk : k.val < 512) (r0 r1 : Fin 8192)
    (h0 : (p (ix2 b 0)).toNat = r0.val) (h1 : (p (ix2 b 1)).toNat = r1.val + 1) :
    spanRef x p (ix2 b k) = FloatOps.subf (x (ix3 b r1 ⟨2 * k.val, by omega⟩)) (x (ix3 b r0 ⟨2 * k.val, by omega⟩)) := by
  have hr := r1.isLt
  unfold spanRef
  pointwise
  rw [dif_pos hk]
  rw [readRows_apply x _ b _ r1 (ends1_row p b r1 h1), readRows_apply x _ b _ r0 (starts_row p b r0 h0)]

theorem spanRef_odd (x : S4x8192x1024.Idx → F .f32) (p : S4x2.Idx → BitVec 32) (b : Fin 4) (k : Fin 1024) (hk : 512 ≤ k.val) (r0 r1 : Fin 8192)
    (h0 : (p (ix2 b 0)).toNat = r0.val) (h1 : (p (ix2 b 1)).toNat = r1.val + 1) :
    spanRef x p (ix2 b k) = FloatOps.subf (x (ix3 b r0 ⟨2 * (k.val - 512) + 1, by omega⟩)) (x (ix3 b r1 ⟨2 * (k.val - 512) + 1, by omega⟩)) := by
  have hr := r1.isLt
  unfold spanRef
  pointwise
  rw [dif_neg (by omega), readRows_apply x _ b _ r1 (ends1_row p b r1 h1), readRows_apply x _ b _ r0 (starts_row p b r0 h0)]
  simp only [Nat.add_comm 1]

end Cert.Proof.Spans

end
-- ==== Proof.Equation.lean ====
/-
  The kernel's result is the reference's: over the extended reals the even half is multiplied by one, the odd half by minus
  one, and minus a difference of two finite numbers is the difference the other way round.
-/
module

public import proofs.«01_k».proof.Proof.List
public import proofs.«01_k».proof.Proof.Reference

@[expose] public section

set_option maxRecDepth 16384

noncomputable section

namespace Cert.Proof.Spans

open Idealize.ShloMosaic
open Cert.KernelIdeal (S4x8192x1024 S4x2 S4x1024)

theorem sgn_zero : (sgn (F := Ideal) 0 : EReal) = 1 := by
  show (((Scalar.subi 1#32 (Scalar.muli 2#32 (BitVec.ofNat 32 0))).toInt : ℝ) : EReal) = 1
  rw [show (Scalar.subi 1#32 (Scalar.muli 2#32 (BitVec.ofNat 32 0))).toInt = 1 by decide]
  norm_num

theorem sgn_one : (sgn (F := Ideal) 1 : EReal) = -1 := by
  show (((Scalar.subi 1#32 (Scalar.muli 2#32 (BitVec.ofNat 32 1))).toInt : ℝ) : EReal) = -1
  rw [show (Scalar.subi 1#32 (Scalar.muli 2#32 (BitVec.ofNat 32 1))).toInt = -1 by decide]
  norm_num

theorem even_eq (a b : EReal) : FloatOps.mulf (F := Ideal) (φ := .f32) (sgn 0) (FloatOps.subf (F := Ideal) (φ := .f32) a b) = FloatOps.subf (F := Ideal) (φ := .f32) a b := by
  show (sgn (F := Ideal) 0 : EReal) * (a - b) = a - b
  rw [sgn_zero, one_mul]

theorem odd_eq (a b : EReal) (ha : a ≠ ⊤ ∧ a ≠ ⊥) (hb : b ≠ ⊤ ∧ b ≠ ⊥) :
    FloatOps.mulf (F := Ideal) (φ := .f32) (sgn 1) (FloatOps.subf (F := Ideal) (φ := .f32) a b) = FloatOps.subf (F := Ideal) (φ := .f32) b a := by
  show (sgn (F := Ideal) 1 : EReal) * (a - b) = b - a
  rw [sgn_one]
  lift a to ℝ using ha
  lift b to ℝ using hb
  rw [← EReal.coe_sub, ← EReal.coe_sub]
  rw [show (-1 : EReal) = ((-1 : ℝ) : EReal) by norm_num, ← EReal.coe_mul]
  congr 1
  ring

/-- On every span in range and every finite encoding the two results are one. -/
theorem result_agrees (x : S4x8192x1024.Idx → Ideal .f32) (p : S4x2.Idx → BitVec 32) (hp : InRange p) (hx : Finite x) :
    spanVal (F := Ideal) (tableOf (F := Ideal) x) (listOf p) = spanRef (F := Ideal) x p := by
  funext z
  obtain ⟨b, k, rfl⟩ : ∃ (b : Fin 4) (k : Fin 1024), z = ix2 b k := ⟨z 0, z 1, ValueIdx.eq_ix2 z⟩
  obtain ⟨h0, h1, h2⟩ := hp b
  have hk := k.isLt
  have e0 : (p (ix2 b 0)).toNat = (⟨(p (ix2 b 0)).toNat, h0⟩ : Fin 8192).val := rfl
  have e1 : (p (ix2 b 1)).toNat = (⟨(p (ix2 b 1)).toNat - 1, by omega⟩ : Fin 8192).val + 1 := by show _ = _ - 1 + 1; omega
  by_cases hlt : k.val < 512
  · rw [spanVal_apply (F := Ideal) x p b k ⟨2 * k.val, by omega⟩ _ _ (by show 2 * k.val = _; omega) e0 e1,
      spanRef_even (F := Ideal) x p b k hlt _ _ e0 e1, show k.val / 512 = 0 by omega]
    exact even_eq _ _
  · rw [spanVal_apply (F := Ideal) x p b k ⟨2 * (k.val - 512) + 1, by omega⟩ _ _ (by show 2 * (k.val - 512) + 1 = _; omega) e0 e1,
      spanRef_odd (F := Ideal) x p b k (by omega) _ _ e0 e1, show k.val / 512 = 1 by omega]
    exact odd_eq _ _ (hx _) (hx _)

end Cert.Proof.Spans

end
-- ==== Proof.lean ====
/-
  The certificate of the span kernel: its runs at the machine's numbers and at the extended reals, the reference's run, and
  that over the extended reals, on finite encodings and spans in range, the two end with one result. The kernel's run is
  Proof/Run.lean's, proved once for any numbers; the result's equation is Proof/Equation.lean's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_finite_spans
public import proofs.«01_k».proof.Proof.Gen.Pre_span_range
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Proof.Spans

/-- Spans in range name rows of the table only. -/
theorem listOK {F : FTy → Type} [FloatOps F] (m : (ℓ : Loc Cert.KernelIdeal.nD Cert.KernelIdeal.τ Cert.KernelIdeal.sig) → Buf (Elt F) ℓ)
    (h : ∀ d, InRange (m (pLoc d))) : ListOK (ids m) :=
  fun d j => listOf_lt (m (pLoc d)) (h d) j

/-- The kernel's run at the machine's numbers: the run over any numbers, at those. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ (listOK (F := Bits) m fun d => inRange_of_span_range (F := Bits) _ _ (hpre d)))

/-- Its run at the extended reals. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (listOK (F := Ideal) m fun d => inRange_of_span_range (F := Ideal) _ _ (hpre d)))

theorem frame_ideal_finite : Cert.quiescent_KernelIdeal_pre_finite_spans := fun m ρ hpre =>
  (θ_run Cert.KernelIdeal.defs _ _).mono (fun _ h => ⟨fun c => ⟨(h.1 c).1, (h.1 c).2.1⟩, h.2⟩)
    (run_main (F := Ideal) m ρ (listOK (F := Ideal) m fun d => (of_finite_spans _ _ (hpre d)).1))

/-- The reference's run; it has no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

theorem frame_reference_finite : Cert.quiescent_ReferenceIdeal_pre_finite_spans := fun m ρ _ => frame_reference m ρ trivial

/-- The two results are one. -/
theorem algebraic : Cert.algebraic_KernelIdeal_ReferenceIdeal_pre_finite_spans := by
  intro m ρ m' ρ' hpre hagree
  refine ⟨fun c => res (tbl m) (ids m) c, ?_, ?_⟩
  · exact (θ_run Cert.KernelIdeal.defs _ _).mono (fun _ h c => ⟨(h.1 c).2.2, (h.1 c).1, (h.1 c).2.1⟩)
      (run_main (F := Ideal) m ρ (listOK (F := Ideal) m fun d => (of_finite_spans _ _ (hpre d)).1))
  · refine (θ_run Cert.ReferenceIdeal.defs _ _).mono (fun _ h c => ⟨(h c).1.trans ?_, (h c).2.1, (h c).2.2⟩)
      (Cert.ReferenceIdeal.Value.run (F := Ideal) m' ρ')
    obtain ⟨hp, hx⟩ := of_finite_spans _ _ (hpre c)
    rw [result_eq, (hagree c).1, (hagree c).2]
    exact (result_agrees _ _ hp hx).symm

theorem claim : Cert.Claim := ⟨Cert.Kernel.Gen.facts, Cert.KernelIdeal.Gen.facts, Cert.ReferenceIdeal.Gen.facts, Cert.Pre_span_range.Gen.facts,
  Cert.Pre_finite_spans.Gen.facts, frame_kernel, frame_ideal, frame_ideal_finite, frame_reference, frame_reference_finite, trivial, algebraic⟩

end Cert.Proof

end
